-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_enough_survive [hPre_enough_survive : Cert.Pre_enough_survive.Facts] (m : (ℓ : Loc Cert.KernelIdeal.nD Cert.KernelIdeal.τ Cert.KernelIdeal.sig) → Buf (Elt Ideal) ℓ) : Prop :=
  ∀ c : Dev Cert.KernelIdeal.nD,
    (Cert.Pre_enough_survive.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_enough_survive.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_enough_survive [hPre_enough_survive : Cert.Pre_enough_survive.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_enough_survive.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_enough_survive.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_enough_survive [hKernelIdeal : Cert.KernelIdeal.Facts] [hPre_enough_survive : Cert.Pre_enough_survive.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_enough_survive m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_enough_survive [hReferenceIdeal : Cert.ReferenceIdeal.Facts] [hPre_enough_survive : Cert.Pre_enough_survive.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_enough_survive m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_enough_survive [hKernelIdeal : Cert.KernelIdeal.Facts] [hReferenceIdeal : Cert.ReferenceIdeal.Facts] [hPre_enough_survive : Cert.Pre_enough_survive.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_enough_survive m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_enough_survive : Cert.Pre_enough_survive.Facts),
    quiescent_Kernel (hKernel := hKernel)
    ∧ quiescent_KernelIdeal (hKernelIdeal := hKernelIdeal)
    ∧ quiescent_KernelIdeal_pre_enough_survive (hKernelIdeal := hKernelIdeal) (hPre_enough_survive := hPre_enough_survive)
    ∧ quiescent_ReferenceIdeal (hReferenceIdeal := hReferenceIdeal)
    ∧ quiescent_ReferenceIdeal_pre_enough_survive (hReferenceIdeal := hReferenceIdeal) (hPre_enough_survive := hPre_enough_survive)
    ∧ preserves_Kernel_KernelIdeal
    ∧ algebraic_KernelIdeal_ReferenceIdeal_pre_enough_survive (hKernelIdeal := hKernelIdeal) (hReferenceIdeal := hReferenceIdeal) (hPre_enough_survive := hPre_enough_survive)
-- ==== Pre_enough_survive.lean ====
abbrev S4x20000x2 : Shape := ⟨3, ![4, 20000, 2]⟩
abbrev S4x20000x4 : Shape := ⟨3, ![4, 20000, 4]⟩
abbrev S4 : Shape := ⟨1, ![4]⟩
abbrev S4x20000x1 : Shape := ⟨3, ![4, 20000, 1]⟩
abbrev S4x20000 : Shape := ⟨2, ![4, 20000]⟩
abbrev S1x1x4 : Shape := ⟨3, ![1, 1, 4]⟩
abbrev S_ : Shape := ⟨0, ![]⟩
abbrev S4x6000 : Shape := ⟨2, ![4, 6000]⟩
abbrev S4x6000x1 : Shape := ⟨3, ![4, 6000, 1]⟩
abbrev S4x6000x4 : Shape := ⟨3, ![4, 6000, 4]⟩
abbrev S4x1x6000 : Shape := ⟨3, ![4, 1, 6000]⟩
abbrev S4x6000x6000 : Shape := ⟨3, ![4, 6000, 6000]⟩
abbrev S6000 : Shape := ⟨1, ![6000]⟩
abbrev S6000x1 : Shape := ⟨2, ![6000, 1]⟩
abbrev S1x6000 : Shape := ⟨2, ![1, 6000]⟩
abbrev S6000x6000 : Shape := ⟨2, ![6000, 6000]⟩
abbrev S1x6000x6000 : Shape := ⟨3, ![1, 6000, 6000]⟩

class Facts : Prop where
  slices_S4x20000x2_S4x20000x1_0_0_1 : S4x20000x2.Slices ![0, 0, 1] S4x20000x1
  shapeCasts_S4x20000x1_S4x20000 : S4x20000x1.ShapeCasts S4x20000
  shapeCasts_S4_S1x1x4 : S4.ShapeCasts S1x1x4
  bcast_S1x1x4_S4x20000x4_0_1_2 : S1x1x4.BroadcastsInDim S4x20000x4 (![0, 1, 2] : Fin 3 → Fin S4x20000x4.rank)
  slices_S4x20000x4_S4x20000x1_0_0_2 : S4x20000x4.Slices ![0, 0, 2] S4x20000x1
  slices_S4x20000x4_S4x20000x1_0_0_0 : S4x20000x4.Slices ![0, 0, 0] S4x20000x1
  slices_S4x20000x4_S4x20000x1_0_0_3 : S4x20000x4.Slices ![0, 0, 3] S4x20000x1
  slices_S4x20000x4_S4x20000x1_0_0_1 : S4x20000x4.Slices ![0, 0, 1] S4x20000x1
  bcast_S_S4x20000 : S_.BroadcastsInDim S4x20000 (![] : Fin 0 → Fin S4x20000.rank)
  bcast_S4x20000_S4x20000x1_0_1 : S4x20000.BroadcastsInDim S4x20000x1 (![0, 1] : Fin 2 → Fin S4x20000x1.rank)
  concatenates_S4x20000x1_S4x20000x1_S4x20000x1_S4x20000x1_S4x20000x4_d2 : Shape.Concatenates [S4x20000x1, S4x20000x1, S4x20000x1, S4x20000x1] S4x20000x4 2
  sliceFits_S4x20000_S4x6000 : S4x20000.Slices (fun _ => 0) S4x6000
  bcast_S4x6000_S4x6000x1_0_1 : S4x6000.BroadcastsInDim S4x6000x1 (![0, 1] : Fin 2 → Fin S4x6000x1.rank)
  slices_S4x6000x4_S4x6000x1_0_0_0 : S4x6000x4.Slices ![0, 0, 0] S4x6000x1
  shapeCasts_S4x6000x1_S4x6000 : S4x6000x1.ShapeCasts S4x6000
  bcast_S4x6000_S4x1x6000_0_2 : S4x6000.BroadcastsInDim S4x1x6000 (![0, 2] : Fin 2 → Fin S4x1x6000.rank)
  bcast_S4x6000x1_S4x6000x6000_0_1_2 : S4x6000x1.BroadcastsInDim S4x6000x6000 (![0, 1, 2] : Fin 3 → Fin S4x6000x6000.rank)
  bcast_S4x1x6000_S4x6000x6000_0_1_2 : S4x1x6000.BroadcastsInDim S4x6000x6000 (![0, 1, 2] : Fin 3 → Fin S4x6000x6000.rank)
  slices_S4x6000x4_S4x6000x1_0_0_1 : S4x6000x4.Slices ![0, 0, 1] S4x6000x1
  slices_S4x6000x4_S4x6000x1_0_0_2 : S4x6000x4.Slices ![0, 0, 2] S4x6000x1
  slices_S4x6000x4_S4x6000x1_0_0_3 : S4x6000x4.Slices ![0, 0, 3] S4x6000x1
  bcast_S_S4x6000x6000 : S_.BroadcastsInDim S4x6000x6000 (![] : Fin 0 → Fin S4x6000x6000.rank)
  bcast_S6000_S6000x1_0 : S6000.BroadcastsInDim S6000x1 (![0] : Fin 1 → Fin S6000x1.rank)
  bcast_S6000_S1x6000_1 : S6000.BroadcastsInDim S1x6000 (![1] : Fin 1 → Fin S1x6000.rank)
  bcast_S6000x1_S6000x6000_0_1 : S6000x1.BroadcastsInDim S6000x6000 (![0, 1] : Fin 2 → Fin S6000x6000.rank)
  bcast_S1x6000_S6000x6000_0_1 : S1x6000.BroadcastsInDim S6000x6000 (![0, 1] : Fin 2 → Fin S6000x6000.rank)
  bcast_S6000x6000_S1x6000x6000_1_2 : S6000x6000.BroadcastsInDim S1x6000x6000 (![1, 2] : Fin 2 → Fin S1x6000x6000.rank)
  bcast_S1x6000x6000_S4x6000x6000_0_1_2 : S1x6000x6000.BroadcastsInDim S4x6000x6000 (![0, 1, 2] : Fin 3 → Fin S4x6000x6000.rank)
  reducesTo_S4x6000x6000_S4x6000_d1 : S4x6000x6000.ReducesTo [1] S4x6000
  h_S_ : 0 < S_.numel
  natLt_1_32 : 1 < 32
  reducesTo_S4x6000_S4_d1 : S4x6000.ReducesTo [1] S4
  bcast_S_S4 : S_.BroadcastsInDim S4 (![] : Fin 0 → Fin S4.rank)
  gather_S4x20000x4_S4x6000x1_S4x6000x4_2_1_0_0_1_2_114_wf : GatherDims.WF S4x20000x4 S4x6000x1 S4x6000x4 [2] [1] [0] [1] [0] 2 ![1, 1, 4]

variable [Facts]

def gather_S4x20000x4_S4x6000x1_S4x6000x4_2_1_0_0_1_2_114 : GatherDims S4x20000x4 S4x6000x1 S4x6000x4 where
  offsetDims := [2]
  collapsedSliceDims := [1]
  operandBatchingDims := [0]
  startIndicesBatchingDims := [0]
  startIndexMap := [1]
  indexVectorDim := 2
  sliceSizes := ![1, 1, 4]
  wf := gather_S4x20000x4_S4x6000x1_S4x6000x4_2_1_0_0_1_2_114_wf

noncomputable abbrev lit0 : Fin 4 → BitVec 32 := fun
  | 0 => 0x3DCCCCCD#32 | 1 => 0x3DCCCCCD#32 | 2 => 0x3E4CCCCD#32 | 3 => 0x3E4CCCCD#32
  | _ => 0#32

def fn_take {F : FTy → Type} [FloatOps F] (arg0 : FVec F S4x20000x4 .f32) (arg1 : IVec S4x6000 32) : FVec F S4x6000x4 .f32 :=
  let v0 : IVec S4x6000x1 32 := broadcastInDim S4x6000x1 ![0, 1] bcast_S4x6000_S4x6000x1_0_1 arg1
  let v1 : FVec F S4x6000x4 .f32 := (fun x i => Host.gather gather_S4x20000x4_S4x6000x1_S4x6000x4_2_1_0_0_1_2_114 x i) arg0 v0
  v1

def fn_part6 {F : FTy → Type} [FloatOps F] (main_v58 : IVec S4x20000 1) (main_v132 : FVec F S4x6000x6000 .f32) : IVec S4x20000 1 × IVec S4 1 :=
  let main_v133 : IVec S6000 32 := iotaInDim S6000 32 0
  let main_cst_8 : FVec F S_ .f32 := constant S_ .f32 0x3F000000#32
  let main_v134 : FVec F S4x6000x6000 .f32 := broadcastInDim S4x6000x6000 ![] bcast_S_S4x6000x6000 main_cst_8
  let main_v135 : IVec S4x6000x6000 1 := cmpf .ogt main_v132 main_v134
  let main_v136 : IVec S6000x1 32 := broadcastInDim S6000x1 ![0] bcast_S6000_S6000x1_0 main_v133
  let main_v137 : IVec S1x6000 32 := broadcastInDim S1x6000 ![1] bcast_S6000_S1x6000_1 main_v133
  let main_v138 : IVec S6000x6000 32 := broadcastInDim S6000x6000 ![0, 1] bcast_S6000x1_S6000x6000_0_1 main_v136
  let main_v139 : IVec S6000x6000 32 := broadcastInDim S6000x6000 ![0, 1] bcast_S1x6000_S6000x6000_0_1 main_v137
  let main_v140 : IVec S6000x6000 1 := cmpi .slt main_v138 main_v139
  let main_v141 : IVec S1x6000x6000 1 := broadcastInDim S1x6000x6000 ![1, 2] bcast_S6000x6000_S1x6000x6000_1_2 main_v140
  let main_v142 : IVec S4x6000x6000 1 := broadcastInDim S4x6000x6000 ![0, 1, 2] bcast_S1x6000x6000_S4x6000x6000_0_1_2 main_v141
  let main_v143 : IVec S4x6000x6000 1 := andi main_v135 main_v142
  let main_c : IVec S_ 1 := constantI S_ 1 0#1
  let main_v144 : IVec S4x6000 1 := (fun x v => Host.reduce IntOp.ori x v reducesTo_S4x6000x6000_S4x6000_d1 h_S_) main_v143 main_c
  let main_v145 : IVec S4x6000 1 := noti main_v144
  let main_v146 : IVec S4x6000 32 := (extui 32 · natLt_1_32) main_v145
  let main_c_9 : IVec S_ 32 := constantI S_ 32 0#32
  let main_v147 : IVec S4 32 := (fun x v => Host.reduce IntOp.addi x v reducesTo_S4x6000_S4_d1 h_S_) main_v146 main_c_9
  let main_c_10 : IVec S_ 32 := constantI S_ 32 1000#32
  let main_v148 : IVec S4 32 := broadcastInDim S4 ![] bcast_S_S4 main_c_10
  let main_v149 : IVec S4 1 := cmpi .sge main_v147 main_v148
  (main_v58, main_v149)

def fn_part5 {F : FTy → Type} [FloatOps F] (main_v54 : FVec F S4x6000x4 .f32) (main_v58 : IVec S4x20000 1) (main_v101 : FVec F S4x6000x6000 .f32) (main_v106 : FVec F S4x6000 .f32) (main_v108 : FVec F S4x6000 .f32) (main_v109 : FVec F S4x6000x1 .f32) : IVec S4x20000 1 × IVec S4 1 :=
  let main_v110 : FVec F S4x6000 .f32 := shapeCast S4x6000 main_v109 shapeCasts_S4x6000x1_S4x6000
  let main_v111 : FVec F S4x6000 .f32 := subf main_v108 main_v110
  let main_v112 : FVec F S4x6000 .f32 := mulf main_v106 main_v111
  let main_v113 : FVec F S4x6000x1 .f32 := (extractStridedSlice S4x6000x1 ![0, 0, 2] · slices_S4x6000x4_S4x6000x1_0_0_2) main_v54
  let main_v114 : FVec F S4x6000 .f32 := shapeCast S4x6000 main_v113 shapeCasts_S4x6000x1_S4x6000
  let main_v115 : FVec F S4x6000x1 .f32 := (extractStridedSlice S4x6000x1 ![0, 0, 0] · slices_S4x6000x4_S4x6000x1_0_0_0) main_v54
  let main_v116 : FVec F S4x6000 .f32 := shapeCast S4x6000 main_v115 shapeCasts_S4x6000x1_S4x6000
  let main_v117 : FVec F S4x6000 .f32 := subf main_v114 main_v116
  let main_v118 : FVec F S4x6000x1 .f32 := (extractStridedSlice S4x6000x1 ![0, 0, 3] · slices_S4x6000x4_S4x6000x1_0_0_3) main_v54
  let main_v119 : FVec F S4x6000 .f32 := shapeCast S4x6000 main_v118 shapeCasts_S4x6000x1_S4x6000
  let main_v120 : FVec F S4x6000x1 .f32 := (extractStridedSlice S4x6000x1 ![0, 0, 1] · slices_S4x6000x4_S4x6000x1_0_0_1) main_v54
  let main_v121 : FVec F S4x6000 .f32 := shapeCast S4x6000 main_v120 shapeCasts_S4x6000x1_S4x6000
  let main_v122 : FVec F S4x6000 .f32 := subf main_v119 main_v121
  let main_v123 : FVec F S4x6000 .f32 := mulf main_v117 main_v122
  let main_v124 : FVec F S4x1x6000 .f32 := broadcastInDim S4x1x6000 ![0, 2] bcast_S4x6000_S4x1x6000_0_2 main_v123
  let main_v125 : FVec F S4x6000x1 .f32 := broadcastInDim S4x6000x1 ![0, 1] bcast_S4x6000_S4x6000x1_0_1 main_v112
  let main_v126 : FVec F S4x6000x6000 .f32 := broadcastInDim S4x6000x6000 ![0, 1, 2] bcast_S4x6000x1_S4x6000x6000_0_1_2 main_v125
  let main_v127 : FVec F S4x6000x6000 .f32 := broadcastInDim S4x6000x6000 ![0, 1, 2] bcast_S4x1x6000_S4x6000x6000_0_1_2 main_v124
  let main_v128 : FVec F S4x6000x6000 .f32 := addf main_v126 main_v127
  let main_v129 : FVec F S4x6000x6000 .f32 := subf main_v128 main_v101
  let main_cst_7 : FVec F S_ .f32 := constant S_ .f32 0x322BCC77#32
  let main_v130 : FVec F S4x6000x6000 .f32 := broadcastInDim S4x6000x6000 ![] bcast_S_S4x6000x6000 main_cst_7
  let main_v131 : FVec F S4x6000x6000 .f32 := addf main_v129 main_v130
  let main_v132 : FVec F S4x6000x6000 .f32 := Host.divf main_v101 main_v131
  fn_part6 (F := F) main_v58 main_v132

def fn_part4 {F : FTy → Type} [FloatOps F] (main_v54 : FVec F S4x6000x4 .f32) (main_v58 : IVec S4x20000 1) (main_v67 : FVec F S4x6000x6000 .f32) (main_v76 : FVec F S4x6000x6000 .f32) (main_v85 : FVec F S4x6000x6000 .f32) (main_v87 : FVec F S4x6000 .f32) : IVec S4x20000 1 × IVec S4 1 :=
  let main_v88 : FVec F S4x6000x1 .f32 := (extractStridedSlice S4x6000x1 ![0, 0, 3] · slices_S4x6000x4_S4x6000x1_0_0_3) main_v54
  let main_v89 : FVec F S4x6000 .f32 := shapeCast S4x6000 main_v88 shapeCasts_S4x6000x1_S4x6000
  let main_v90 : FVec F S4x1x6000 .f32 := broadcastInDim S4x1x6000 ![0, 2] bcast_S4x6000_S4x1x6000_0_2 main_v89
  let main_v91 : FVec F S4x6000x1 .f32 := broadcastInDim S4x6000x1 ![0, 1] bcast_S4x6000_S4x6000x1_0_1 main_v87
  let main_v92 : FVec F S4x6000x6000 .f32 := broadcastInDim S4x6000x6000 ![0, 1, 2] bcast_S4x6000x1_S4x6000x6000_0_1_2 main_v91
  let main_v93 : FVec F S4x6000x6000 .f32 := broadcastInDim S4x6000x6000 ![0, 1, 2] bcast_S4x1x6000_S4x6000x6000_0_1_2 main_v90
  let main_v94 : FVec F S4x6000x6000 .f32 := minimumf main_v92 main_v93
  let main_v95 : FVec F S4x6000x6000 .f32 := subf main_v85 main_v67
  let main_cst_5 : FVec F S_ .f32 := constant S_ .f32 0x00000000#32
  let main_v96 : FVec F S4x6000x6000 .f32 := broadcastInDim S4x6000x6000 ![] bcast_S_S4x6000x6000 main_cst_5
  let main_v97 : FVec F S4x6000x6000 .f32 := maximumf main_v95 main_v96
  let main_v98 : FVec F S4x6000x6000 .f32 := subf main_v94 main_v76
  let main_cst_6 : FVec F S_ .f32 := constant S_ .f32 0x00000000#32
  let main_v99 : FVec F S4x6000x6000 .f32 := broadcastInDim S4x6000x6000 ![] bcast_S_S4x6000x6000 main_cst_6
  let main_v100 : FVec F S4x6000x6000 .f32 := maximumf main_v98 main_v99
  let main_v101 : FVec F S4x6000x6000 .f32 := mulf main_v97 main_v100
  let main_v102 : FVec F S4x6000x1 .f32 := (extractStridedSlice S4x6000x1 ![0, 0, 2] · slices_S4x6000x4_S4x6000x1_0_0_2) main_v54
  let main_v103 : FVec F S4x6000 .f32 := shapeCast S4x6000 main_v102 shapeCasts_S4x6000x1_S4x6000
  let main_v104 : FVec F S4x6000x1 .f32 := (extractStridedSlice S4x6000x1 ![0, 0, 0] · slices_S4x6000x4_S4x6000x1_0_0_0) main_v54
  let main_v105 : FVec F S4x6000 .f32 := shapeCast S4x6000 main_v104 shapeCasts_S4x6000x1_S4x6000
  let main_v106 : FVec F S4x6000 .f32 := subf main_v103 main_v105
  let main_v107 : FVec F S4x6000x1 .f32 := (extractStridedSlice S4x6000x1 ![0, 0, 3] · slices_S4x6000x4_S4x6000x1_0_0_3) main_v54
  let main_v108 : FVec F S4x6000 .f32 := shapeCast S4x6000 main_v107 shapeCasts_S4x6000x1_S4x6000
  let main_v109 : FVec F S4x6000x1 .f32 := (extractStridedSlice S4x6000x1 ![0, 0, 1] · slices_S4x6000x4_S4x6000x1_0_0_1) main_v54
  fn_part5 (F := F) main_v54 main_v58 main_v101 main_v106 main_v108 main_v109

def fn_part3 {F : FTy → Type} [FloatOps F] (main_v54 : FVec F S4x6000x4 .f32) (main_v58 : IVec S4x20000 1) (main_v60 : FVec F S4x6000 .f32) (main_v63 : FVec F S4x1x6000 .f32) : IVec S4x20000 1 × IVec S4 1 :=
  let main_v64 : FVec F S4x6000x1 .f32 := broadcastInDim S4x6000x1 ![0, 1] bcast_S4x6000_S4x6000x1_0_1 main_v60
  let main_v65 : FVec F S4x6000x6000 .f32 := broadcastInDim S4x6000x6000 ![0, 1, 2] bcast_S4x6000x1_S4x6000x6000_0_1_2 main_v64
  let main_v66 : FVec F S4x6000x6000 .f32 := broadcastInDim S4x6000x6000 ![0, 1, 2] bcast_S4x1x6000_S4x6000x6000_0_1_2 main_v63
  let main_v67 : FVec F S4x6000x6000 .f32 := maximumf main_v65 main_v66
  let main_v68 : FVec F S4x6000x1 .f32 := (extractStridedSlice S4x6000x1 ![0, 0, 1] · slices_S4x6000x4_S4x6000x1_0_0_1) main_v54
  let main_v69 : FVec F S4x6000 .f32 := shapeCast S4x6000 main_v68 shapeCasts_S4x6000x1_S4x6000
  let main_v70 : FVec F S4x6000x1 .f32 := (extractStridedSlice S4x6000x1 ![0, 0, 1] · slices_S4x6000x4_S4x6000x1_0_0_1) main_v54
  let main_v71 : FVec F S4x6000 .f32 := shapeCast S4x6000 main_v70 shapeCasts_S4x6000x1_S4x6000
  let main_v72 : FVec F S4x1x6000 .f32 := broadcastInDim S4x1x6000 ![0, 2] bcast_S4x6000_S4x1x6000_0_2 main_v71
  let main_v73 : FVec F S4x6000x1 .f32 := broadcastInDim S4x6000x1 ![0, 1] bcast_S4x6000_S4x6000x1_0_1 main_v69
  let main_v74 : FVec F S4x6000x6000 .f32 := broadcastInDim S4x6000x6000 ![0, 1, 2] bcast_S4x6000x1_S4x6000x6000_0_1_2 main_v73
  let main_v75 : FVec F S4x6000x6000 .f32 := broadcastInDim S4x6000x6000 ![0, 1, 2] bcast_S4x1x6000_S4x6000x6000_0_1_2 main_v72
  let main_v76 : FVec F S4x6000x6000 .f32 := maximumf main_v74 main_v75
  let main_v77 : FVec F S4x6000x1 .f32 := (extractStridedSlice S4x6000x1 ![0, 0, 2] · slices_S4x6000x4_S4x6000x1_0_0_2) main_v54
  let main_v78 : FVec F S4x6000 .f32 := shapeCast S4x6000 main_v77 shapeCasts_S4x6000x1_S4x6000
  let main_v79 : FVec F S4x6000x1 .f32 := (extractStridedSlice S4x6000x1 ![0, 0, 2] · slices_S4x6000x4_S4x6000x1_0_0_2) main_v54
  let main_v80 : FVec F S4x6000 .f32 := shapeCast S4x6000 main_v79 shapeCasts_S4x6000x1_S4x6000
  let main_v81 : FVec F S4x1x6000 .f32 := broadcastInDim S4x1x6000 ![0, 2] bcast_S4x6000_S4x1x6000_0_2 main_v80
  let main_v82 : FVec F S4x6000x1 .f32 := broadcastInDim S4x6000x1 ![0, 1] bcast_S4x6000_S4x6000x1_0_1 main_v78
  let main_v83 : FVec F S4x6000x6000 .f32 := broadcastInDim S4x6000x6000 ![0, 1, 2] bcast_S4x6000x1_S4x6000x6000_0_1_2 main_v82
  let main_v84 : FVec F S4x6000x6000 .f32 := broadcastInDim S4x6000x6000 ![0, 1, 2] bcast_S4x1x6000_S4x6000x6000_0_1_2 main_v81
  let main_v85 : FVec F S4x6000x6000 .f32 := minimumf main_v83 main_v84
  let main_v86 : FVec F S4x6000x1 .f32 := (extractStridedSlice S4x6000x1 ![0, 0, 3] · slices_S4x6000x4_S4x6000x1_0_0_3) main_v54
  let main_v87 : FVec F S4x6000 .f32 := shapeCast S4x6000 main_v86 shapeCasts_S4x6000x1_S4x6000
  fn_part4 (F := F) main_v54 main_v58 main_v67 main_v76 main_v85 main_v87

def fn_part2 {F : FTy → Type} [FloatOps F] (main_arg0 : FVec F S4x20000x2 .f32) (main_v1 : FVec F S4x20000 .f32) (main_v32 : FVec F S4x20000 .f32) (main_v36 : FVec F S4x20000 .f32) (main_v40 : FVec F S4x20000 .f32) (main_v43 : FVec F S4x20000 .f32) : IVec S4x20000 1 × IVec S4 1 :=
  let main_cst_3 : FVec F S_ .f32 := constant S_ .f32 0x3F000000#32
  let main_v44 : FVec F S4x20000 .f32 := broadcastInDim S4x20000 ![] bcast_S_S4x20000 main_cst_3
  let main_v45 : FVec F S4x20000 .f32 := mulf main_v44 main_v40
  let main_v46 : FVec F S4x20000 .f32 := subf main_v32 main_v45
  let main_v47 : FVec F S4x20000 .f32 := addf main_v43 main_v36
  let main_v48 : FVec F S4x20000 .f32 := addf main_v46 main_v40
  let main_v49 : FVec F S4x20000x1 .f32 := broadcastInDim S4x20000x1 ![0, 1] bcast_S4x20000_S4x20000x1_0_1 main_v43
  let main_v50 : FVec F S4x20000x1 .f32 := broadcastInDim S4x20000x1 ![0, 1] bcast_S4x20000_S4x20000x1_0_1 main_v46
  let main_v51 : FVec F S4x20000x1 .f32 := broadcastInDim S4x20000x1 ![0, 1] bcast_S4x20000_S4x20000x1_0_1 main_v47
  let main_v52 : FVec F S4x20000x1 .f32 := broadcastInDim S4x20000x1 ![0, 1] bcast_S4x20000_S4x20000x1_0_1 main_v48
  let main_v53 : FVec F S4x20000x4 .f32 := concatenate S4x20000x4 2 [⟨S4x20000x1, main_v49⟩, ⟨S4x20000x1, main_v50⟩, ⟨S4x20000x1, main_v51⟩, ⟨S4x20000x1, main_v52⟩] concatenates_S4x20000x1_S4x20000x1_S4x20000x1_S4x20000x1_S4x20000x4_d2
  let main_values : FVec F S4x6000 .f32 := (fun x => (Host.topK S4x6000 1 (FloatOps.cmpfTotal .gt) x sliceFits_S4x20000_S4x6000).1) main_v1
  let main_indices : IVec S4x6000 32 := (fun x => (Host.topK S4x6000 1 (FloatOps.cmpfTotal .gt) x sliceFits_S4x20000_S4x6000).2) main_v1
  let main_v54 : FVec F S4x6000x4 .f32 := fn_take (F := F) main_v53 main_indices
  let main_v55 : FVec F S4x20000x1 .f32 := (extractStridedSlice S4x20000x1 ![0, 0, 1] · slices_S4x20000x2_S4x20000x1_0_0_1) main_arg0
  let main_v56 : FVec F S4x20000 .f32 := shapeCast S4x20000 main_v55 shapeCasts_S4x20000x1_S4x20000
  let main_cst_4 : FVec F S_ .f32 := constant S_ .f32 0xBF000000#32
  let main_v57 : FVec F S4x20000 .f32 := broadcastInDim S4x20000 ![] bcast_S_S4x20000 main_cst_4
  let main_v58 : IVec S4x20000 1 := cmpf .ogt main_v56 main_v57
  let main_v59 : FVec F S4x6000x1 .f32 := (extractStridedSlice S4x6000x1 ![0, 0, 0] · slices_S4x6000x4_S4x6000x1_0_0_0) main_v54
  let main_v60 : FVec F S4x6000 .f32 := shapeCast S4x6000 main_v59 shapeCasts_S4x6000x1_S4x6000
  let main_v61 : FVec F S4x6000x1 .f32 := (extractStridedSlice S4x6000x1 ![0, 0, 0] · slices_S4x6000x4_S4x6000x1_0_0_0) main_v54
  let main_v62 : FVec F S4x6000 .f32 := shapeCast S4x6000 main_v61 shapeCasts_S4x6000x1_S4x6000
  let main_v63 : FVec F S4x1x6000 .f32 := broadcastInDim S4x1x6000 ![0, 2] bcast_S4x6000_S4x1x6000_0_2 main_v62
  fn_part3 (F := F) main_v54 main_v58 main_v60 main_v63

def fn_part1 {F : FTy → Type} [FloatOps F] (main_arg0 : FVec F S4x20000x2 .f32) (main_v1 : FVec F S4x20000 .f32) (main_v4 : FVec F S4x20000x4 .f32) (main_v9 : FVec F S4x20000 .f32) (main_v14 : FVec F S4x20000 .f32) (main_v19 : FVec F S4x20000 .f32) (main_v21 : FVec F S4x20000 .f32) : IVec S4x20000 1 × IVec S4 1 :=
  let main_cst_1 : FVec F S_ .f32 := constant S_ .f32 0x3F000000#32
  let main_v22 : FVec F S4x20000 .f32 := broadcastInDim S4x20000 ![] bcast_S_S4x20000 main_cst_1
  let main_v23 : FVec F S4x20000 .f32 := mulf main_v22 main_v14
  let main_v24 : FVec F S4x20000 .f32 := addf main_v21 main_v23
  let main_v25 : FVec F S4x20000x1 .f32 := (extractStridedSlice S4x20000x1 ![0, 0, 0] · slices_S4x20000x4_S4x20000x1_0_0_0) main_v4
  let main_v26 : FVec F S4x20000 .f32 := shapeCast S4x20000 main_v25 shapeCasts_S4x20000x1_S4x20000
  let main_v27 : FVec F S4x20000 .f32 := mulf main_v26 main_v9
  let main_v28 : FVec F S4x20000 .f32 := addf main_v19 main_v27
  let main_v29 : FVec F S4x20000x1 .f32 := (extractStridedSlice S4x20000x1 ![0, 0, 1] · slices_S4x20000x4_S4x20000x1_0_0_1) main_v4
  let main_v30 : FVec F S4x20000 .f32 := shapeCast S4x20000 main_v29 shapeCasts_S4x20000x1_S4x20000
  let main_v31 : FVec F S4x20000 .f32 := mulf main_v30 main_v14
  let main_v32 : FVec F S4x20000 .f32 := addf main_v24 main_v31
  let main_v33 : FVec F S4x20000x1 .f32 := (extractStridedSlice S4x20000x1 ![0, 0, 2] · slices_S4x20000x4_S4x20000x1_0_0_2) main_v4
  let main_v34 : FVec F S4x20000 .f32 := shapeCast S4x20000 main_v33 shapeCasts_S4x20000x1_S4x20000
  let main_v35 : FVec F S4x20000 .f32 := Host.exp main_v34
  let main_v36 : FVec F S4x20000 .f32 := mulf main_v9 main_v35
  let main_v37 : FVec F S4x20000x1 .f32 := (extractStridedSlice S4x20000x1 ![0, 0, 3] · slices_S4x20000x4_S4x20000x1_0_0_3) main_v4
  let main_v38 : FVec F S4x20000 .f32 := shapeCast S4x20000 main_v37 shapeCasts_S4x20000x1_S4x20000
  let main_v39 : FVec F S4x20000 .f32 := Host.exp main_v38
  let main_v40 : FVec F S4x20000 .f32 := mulf main_v14 main_v39
  let main_cst_2 : FVec F S_ .f32 := constant S_ .f32 0x3F000000#32
  let main_v41 : FVec F S4x20000 .f32 := broadcastInDim S4x20000 ![] bcast_S_S4x20000 main_cst_2
  let main_v42 : FVec F S4x20000 .f32 := mulf main_v41 main_v36
  let main_v43 : FVec F S4x20000 .f32 := subf main_v28 main_v42
  fn_part2 (F := F) main_arg0 main_v1 main_v32 main_v36 main_v40 main_v43

def fn {F : FTy → Type} [FloatOps F] (main_arg0 : FVec F S4x20000x2 .f32) (main_arg1 : FVec F S4x20000x4 .f32) (main_arg2 : FVec F S4x20000x4 .f32) : IVec S4x20000 1 × IVec S4 1 :=
  let main_cst : FVec F S4 .f32 := fun i => FloatOps.ofBits .f32 (lit0 (S4.rowMajor i))
  let main_v0 : FVec F S4x20000x1 .f32 := (extractStridedSlice S4x20000x1 ![0, 0, 1] · slices_S4x20000x2_S4x20000x1_0_0_1) main_arg0
  let main_v1 : FVec F S4x20000 .f32 := shapeCast S4x20000 main_v0 shapeCasts_S4x20000x1_S4x20000
  let main_v2 : FVec F S1x1x4 .f32 := shapeCast S1x1x4 main_cst shapeCasts_S4_S1x1x4
  let main_v3 : FVec F S4x20000x4 .f32 := broadcastInDim S4x20000x4 ![0, 1, 2] bcast_S1x1x4_S4x20000x4_0_1_2 main_v2
  let main_v4 : FVec F S4x20000x4 .f32 := mulf main_arg1 main_v3
  let main_v5 : FVec F S4x20000x1 .f32 := (extractStridedSlice S4x20000x1 ![0, 0, 2] · slices_S4x20000x4_S4x20000x1_0_0_2) main_arg2
  let main_v6 : FVec F S4x20000 .f32 := shapeCast S4x20000 main_v5 shapeCasts_S4x20000x1_S4x20000
  let main_v7 : FVec F S4x20000x1 .f32 := (extractStridedSlice S4x20000x1 ![0, 0, 0] · slices_S4x20000x4_S4x20000x1_0_0_0) main_arg2
  let main_v8 : FVec F S4x20000 .f32 := shapeCast S4x20000 main_v7 shapeCasts_S4x20000x1_S4x20000
  let main_v9 : FVec F S4x20000 .f32 := subf main_v6 main_v8
  let main_v10 : FVec F S4x20000x1 .f32 := (extractStridedSlice S4x20000x1 ![0, 0, 3] · slices_S4x20000x4_S4x20000x1_0_0_3) main_arg2
  let main_v11 : FVec F S4x20000 .f32 := shapeCast S4x20000 main_v10 shapeCasts_S4x20000x1_S4x20000
  let main_v12 : FVec F S4x20000x1 .f32 := (extractStridedSlice S4x20000x1 ![0, 0, 1] · slices_S4x20000x4_S4x20000x1_0_0_1) main_arg2
  let main_v13 : FVec F S4x20000 .f32 := shapeCast S4x20000 main_v12 shapeCasts_S4x20000x1_S4x20000
  let main_v14 : FVec F S4x20000 .f32 := subf main_v11 main_v13
  let main_v15 : FVec F S4x20000x1 .f32 := (extractStridedSlice S4x20000x1 ![0, 0, 0] · slices_S4x20000x4_S4x20000x1_0_0_0) main_arg2
  let main_v16 : FVec F S4x20000 .f32 := shapeCast S4x20000 main_v15 shapeCasts_S4x20000x1_S4x20000
  let main_cst_0 : FVec F S_ .f32 := constant S_ .f32 0x3F000000#32
  let main_v17 : FVec F S4x20000 .f32 := broadcastInDim S4x20000 ![] bcast_S_S4x20000 main_cst_0
  let main_v18 : FVec F S4x20000 .f32 := mulf main_v17 main_v9
  let main_v19 : FVec F S4x20000 .f32 := addf main_v16 main_v18
  let main_v20 : FVec F S4x20000x1 .f32 := (extractStridedSlice S4x20000x1 ![0, 0, 1] · slices_S4x20000x4_S4x20000x1_0_0_1) main_arg2
  let main_v21 : FVec F S4x20000 .f32 := shapeCast S4x20000 main_v20 shapeCasts_S4x20000x1_S4x20000
  fn_part1 (F := F) main_arg0 main_v1 main_v4 main_v9 main_v14 main_v19 main_v21
-- ==== Kernel.lean ====
abbrev S4x20000x2 : Shape := ⟨3, ![4, 20000, 2]⟩
abbrev S4x20000x4 : Shape := ⟨3, ![4, 20000, 4]⟩
abbrev S4x20000x1 : Shape := ⟨3, ![4, 20000, 1]⟩
abbrev S4x20000 : Shape := ⟨2, ![4, 20000]⟩
abbrev S_ : Shape := ⟨0, ![]⟩
abbrev S4x20096 : Shape := ⟨2, ![4, 20096]⟩
abbrev S4x157x128 : Shape := ⟨3, ![4, 157, 128]⟩
abbrev S4x1000x4 : Shape := ⟨3, ![4, 1000, 4]⟩
abbrev S1x157x128 : Shape := ⟨3, ![1, 157, 128]⟩
abbrev S1x1x4 : Shape := ⟨3, ![1, 1, 4]⟩
abbrev S4 : Shape := ⟨1, ![4]⟩
abbrev S4x1x1 : Shape := ⟨3, ![4, 1, 1]⟩
abbrev S4x1x4 : Shape := ⟨3, ![4, 1, 4]⟩

abbrev nBuf : Space → Nat
  | .hbm => 58
  | .vmem => 10
  | .smem => 0
  | _ => 0

abbrev bufTy : (tb : Table) → Fin (tcTables nBuf tb) → BufTy
  | .hbm, ⟨0, _⟩ => ⟨S4x20000x2, .f32⟩
  | .hbm, ⟨1, _⟩ => ⟨S4x20000x4, .f32⟩
  | .hbm, ⟨2, _⟩ => ⟨S4x20000x4, .f32⟩
  | .hbm, ⟨3, _⟩ => ⟨S4x20000x1, .f32⟩
  | .hbm, ⟨4, _⟩ => ⟨S4x20000, .f32⟩
  | .hbm, ⟨5, _⟩ => ⟨S_, .f32⟩
  | .hbm, ⟨6, _⟩ => ⟨S_, .f32⟩
  | .hbm, ⟨7, _⟩ => ⟨S4x20096, .f32⟩
  | .hbm, ⟨8, _⟩ => ⟨S4x157x128, .f32⟩
  | .hbm, ⟨9, _⟩ => ⟨S4x20000x1, .f32⟩
  | .hbm, ⟨10, _⟩ => ⟨S4x20000, .f32⟩
  | .hbm, ⟨11, _⟩ => ⟨S_, .f32⟩
  | .hbm, ⟨12, _⟩ => ⟨S_, .f32⟩
  | .hbm, ⟨13, _⟩ => ⟨S4x20096, .f32⟩
  | .hbm, ⟨14, _⟩ => ⟨S4x157x128, .f32⟩
  | .hbm, ⟨15, _⟩ => ⟨S4x20000x1, .f32⟩
  | .hbm, ⟨16, _⟩ => ⟨S4x20000, .f32⟩
  | .hbm, ⟨17, _⟩ => ⟨S_, .f32⟩
  | .hbm, ⟨18, _⟩ => ⟨S_, .f32⟩
  | .hbm, ⟨19, _⟩ => ⟨S4x20096, .f32⟩
  | .hbm, ⟨20, _⟩ => ⟨S4x157x128, .f32⟩
  | .hbm, ⟨21, _⟩ => ⟨S4x20000x1, .f32⟩
  | .hbm, ⟨22, _⟩ => ⟨S4x20000, .f32⟩
  | .hbm, ⟨23, _⟩ => ⟨S_, .f32⟩
  | .hbm, ⟨24, _⟩ => ⟨S_, .f32⟩
  | .hbm, ⟨25, _⟩ => ⟨S4x20096, .f32⟩
  | .hbm, ⟨26, _⟩ => ⟨S4x157x128, .f32⟩
  | .hbm, ⟨27, _⟩ => ⟨S4x20000x1, .f32⟩
  | .hbm, ⟨28, _⟩ => ⟨S4x20000, .f32⟩
  | .hbm, ⟨29, _⟩ => ⟨S_, .f32⟩
  | .hbm, ⟨30, _⟩ => ⟨S_, .f32⟩
  | .hbm, ⟨31, _⟩ => ⟨S4x20096, .f32⟩
  | .hbm, ⟨32, _⟩ => ⟨S4x157x128, .f32⟩
  | .hbm, ⟨33, _⟩ => ⟨S4x20000x1, .f32⟩
  | .hbm, ⟨34, _⟩ => ⟨S4x20000, .f32⟩
  | .hbm, ⟨35, _⟩ => ⟨S_, .f32⟩
  | .hbm, ⟨36, _⟩ => ⟨S_, .f32⟩
  | .hbm, ⟨37, _⟩ => ⟨S4x20096, .f32⟩
  | .hbm, ⟨38, _⟩ => ⟨S4x157x128, .f32⟩
  | .hbm, ⟨39, _⟩ => ⟨S4x20000x1, .f32⟩
  | .hbm, ⟨40, _⟩ => ⟨S4x20000, .f32⟩
  | .hbm, ⟨41, _⟩ => ⟨S_, .f32⟩
  | .hbm, ⟨42, _⟩ => ⟨S_, .f32⟩
  | .hbm, ⟨43, _⟩ => ⟨S4x20096, .f32⟩
  | .hbm, ⟨44, _⟩ => ⟨S4x157x128, .f32⟩
  | .hbm, ⟨45, _⟩ => ⟨S4x20000x1, .f32⟩
  | .hbm, ⟨46, _⟩ => ⟨S4x20000, .f32⟩
  | .hbm, ⟨47, _⟩ => ⟨S_, .f32⟩
  | .hbm, ⟨48, _⟩ => ⟨S_, .f32⟩
  | .hbm, ⟨49, _⟩ => ⟨S4x20096, .f32⟩
  | .hbm, ⟨50, _⟩ => ⟨S4x157x128, .f32⟩
  | .hbm, ⟨51, _⟩ => ⟨S4x20000x1, .f32⟩
  | .hbm, ⟨52, _⟩ => ⟨S4x20000, .f32⟩
  | .hbm, ⟨53, _⟩ => ⟨S_, .f32⟩
  | .hbm, ⟨54, _⟩ => ⟨S_, .f32⟩
  | .hbm, ⟨55, _⟩ => ⟨S4x20096, .f32⟩
  | .hbm, ⟨56, _⟩ => ⟨S4x157x128, .f32⟩
  | .hbm, ⟨57, _⟩ => ⟨S4x1000x4, .f32⟩
  | .local _ .vmem, ⟨0, _⟩ => ⟨S4x157x128, .f32⟩
  | .local _ .vmem, ⟨1, _⟩ => ⟨S4x157x128, .f32⟩
  | .local _ .vmem, ⟨2, _⟩ => ⟨S4x157x128, .f32⟩
  | .local _ .vmem, ⟨3, _⟩ => ⟨S4x157x128, .f32⟩
  | .local _ .vmem, ⟨4, _⟩ => ⟨S4x157x128, .f32⟩
  | .local _ .vmem, ⟨5, _⟩ => ⟨S4x157x128, .f32⟩
  | .local _ .vmem, ⟨6, _⟩ => ⟨S4x157x128, .f32⟩
  | .local _ .vmem, ⟨7, _⟩ => ⟨S4x157x128, .f32⟩
  | .local _ .vmem, ⟨8, _⟩ => ⟨S4x157x128, .f32⟩
  | .local _ .vmem, ⟨9, _⟩ => ⟨S4x1000x4, .f32⟩
  | _, _ => ⟨S4x20000x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_call1_v0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_call2_v0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call3_v0 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_call4_v0 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_4 : Ref sig .tc := ⟨.hbm, 35, rfl⟩
abbrev main_call5_v0 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_5 : Ref sig .tc := ⟨.hbm, 41, rfl⟩
abbrev main_call6_v0 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_6 : Ref sig .tc := ⟨.hbm, 47, rfl⟩
abbrev main_call7_v0 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_7 : Ref sig .tc := ⟨.hbm, 53, rfl⟩
abbrev main_call8_v0 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c1000_i32 : BitVec 32 := 1000#32
  let v63 : BitVec 32 := Scalar.addi c0_i32 c1000_i32
  let c1_i32 : BitVec 32 := 1#32
  ⟨c0_i32, v63, c1_i32⟩
def k0_off1 (k0_t1 : Fin k0_t1_loop.trips) : Fin 3 → Nat :=
  let c0_60 : Index := 0#32
  let c0_i32 : BitVec 32 := 0#32
  let c1_i32 : BitVec 32 := 1#32
  let arg10 : BitVec 32 := Scf.iv c0_i32 c1_i32 k0_t1
  let v167 : Index := Scalar.indexCast arg10
  let c0_61 : Index := 0#32
  ![0, v167.toNat, 0]
abbrev stage0_0 : Fin 1 → Memref sig .tc .vmem S4x157x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x157x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x157x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x157x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x157x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x157x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x157x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4x157x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S4x157x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S4x1000x4 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== ReferenceIdeal.lean ====
abbrev S4x20000x2 : Shape := ⟨3, ![4, 20000, 2]⟩
abbrev S4x20000x4 : Shape := ⟨3, ![4, 20000, 4]⟩
abbrev S4 : Shape := ⟨1, ![4]⟩
abbrev S4x20000x1 : Shape := ⟨3, ![4, 20000, 1]⟩
abbrev S4x20000 : Shape := ⟨2, ![4, 20000]⟩
abbrev S1x1x4 : Shape := ⟨3, ![1, 1, 4]⟩
abbrev S_ : Shape := ⟨0, ![]⟩
abbrev S4x6000 : Shape := ⟨2, ![4, 6000]⟩
abbrev S4x6000x1 : Shape := ⟨3, ![4, 6000, 1]⟩
abbrev S4x6000x4 : Shape := ⟨3, ![4, 6000, 4]⟩
abbrev S1000x4x4 : Shape := ⟨3, ![1000, 4, 4]⟩
abbrev S4x1 : Shape := ⟨2, ![4, 1]⟩
abbrev S4x4 : Shape := ⟨2, ![4, 4]⟩
abbrev S6000 : Shape := ⟨1, ![6000]⟩
abbrev S1x6000 : Shape := ⟨2, ![1, 6000]⟩
abbrev S1x4x4 : Shape := ⟨3, ![1, 4, 4]⟩
abbrev S4x1000x4 : Shape := ⟨3, ![4, 1000, 4]⟩

abbrev nBuf : Space → Nat
  | .hbm => 185
  | .vmem => 0
  | .smem => 0
  | _ => 0

abbrev hbmTy0_0 (i : Nat) : BufTy := match i % 128 with
  | 0 => ⟨S4x20000x2, .f32⟩
  | 1 => ⟨S4x20000x4, .f32⟩
  | 2 => ⟨S4x20000x4, .f32⟩
  | 3 => ⟨S4, .f32⟩
  | 4 => ⟨S4x20000x1, .f32⟩
  | 5 => ⟨S4x20000, .f32⟩
  | 6 => ⟨S1x1x4, .f32⟩
  | 7 => ⟨S4x20000x4, .f32⟩
  | 8 => ⟨S4x20000x4, .f32⟩
  | 9 => ⟨S4x20000x1, .f32⟩
  | 10 => ⟨S4x20000, .f32⟩
  | 11 => ⟨S4x20000x1, .f32⟩
  | 12 => ⟨S4x20000, .f32⟩
  | 13 => ⟨S4x20000, .f32⟩
  | 14 => ⟨S4x20000x1, .f32⟩
  | 15 => ⟨S4x20000, .f32⟩
  | 16 => ⟨S4x20000x1, .f32⟩
  | 17 => ⟨S4x20000, .f32⟩
  | 18 => ⟨S4x20000, .f32⟩
  | 19 => ⟨S4x20000x1, .f32⟩
  | 20 => ⟨S4x20000, .f32⟩
  | 21 => ⟨S_, .f32⟩
  | 22 => ⟨S4x20000, .f32⟩
  | 23 => ⟨S4x20000, .f32⟩
  | 24 => ⟨S4x20000, .f32⟩
  | 25 => ⟨S4x20000x1, .f32⟩
  | 26 => ⟨S4x20000, .f32⟩
  | 27 => ⟨S_, .f32⟩
  | 28 => ⟨S4x20000, .f32⟩
  | 29 => ⟨S4x20000, .f32⟩
  | 30 => ⟨S4x20000, .f32⟩
  | 31 => ⟨S4x20000x1, .f32⟩
  | 32 => ⟨S4x20000, .f32⟩
  | 33 => ⟨S4x20000, .f32⟩
  | 34 => ⟨S4x20000, .f32⟩
  | 35 => ⟨S4x20000x1, .f32⟩
  | 36 => ⟨S4x20000, .f32⟩
  | 37 => ⟨S4x20000, .f32⟩
  | 38 => ⟨S4x20000, .f32⟩
  | 39 => ⟨S4x20000x1, .f32⟩
  | 40 => ⟨S4x20000, .f32⟩
  | 41 => ⟨S4x20000, .f32⟩
  | 42 => ⟨S4x20000, .f32⟩
  | 43 => ⟨S4x20000x1, .f32⟩
  | 44 => ⟨S4x20000, .f32⟩
  | 45 => ⟨S4x20000, .f32⟩
  | 46 => ⟨S4x20000, .f32⟩
  | 47 => ⟨S_, .f32⟩
  | 48 => ⟨S4x20000, .f32⟩
  | 49 => ⟨S4x20000, .f32⟩
  | 50 => ⟨S4x20000, .f32⟩
  | 51 => ⟨S_, .f32⟩
  | 52 => ⟨S4x20000, .f32⟩
  | 53 => ⟨S4x20000, .f32⟩
  | 54 => ⟨S4x20000, .f32⟩
  | 55 => ⟨S4x20000, .f32⟩
  | 56 => ⟨S4x20000, .f32⟩
  | 57 => ⟨S4x20000x1, .f32⟩
  | 58 => ⟨S4x20000x1, .f32⟩
  | 59 => ⟨S4x20000x1, .f32⟩
  | 60 => ⟨S4x20000x1, .f32⟩
  | 61 => ⟨S4x20000x4, .f32⟩
  | 62 => ⟨S4x6000, .f32⟩
  | 63 => ⟨S4x6000, .i32⟩
  | 64 => ⟨S4x6000x1, .i32⟩
  | 65 => ⟨S4x6000x4, .f32⟩
  | 66 => ⟨S_, .f32⟩
  | 67 => ⟨S1000x4x4, .f32⟩
  | 68 => ⟨S_, .i32⟩
  | 69 => ⟨S4x6000x4, .f32⟩
  | 70 => ⟨S_, .i32⟩
  | 71 => ⟨S4x6000, .f32⟩
  | 72 => ⟨S1000x4x4, .f32⟩
  | 73 => ⟨S_, .i32⟩
  | 74 => ⟨S_, .i1⟩
  | 75 => ⟨S4x1, .f32⟩
  | 76 => ⟨S4x1, .i32⟩
  | 77 => ⟨S4, .f32⟩
  | 78 => ⟨S4, .i32⟩
  | 79 => ⟨S_, .f32⟩
  | 80 => ⟨S4, .f32⟩
  | 81 => ⟨S4, .i1⟩
  | 82 => ⟨S4x1, .i32⟩
  | 83 => ⟨S4x4, .f32⟩
  | 84 => ⟨S_, .f32⟩
  | 85 => ⟨S4, .f32⟩
  | 86 => ⟨S4x4, .f32⟩
  | 87 => ⟨S4x4, .i1⟩
  | 88 => ⟨S4x4, .f32⟩
  | 89 => ⟨S4x1, .f32⟩
  | 90 => ⟨S4, .f32⟩
  | 91 => ⟨S4x6000x1, .f32⟩
  | 92 => ⟨S4x6000, .f32⟩
  | 93 => ⟨S4x1, .f32⟩
  | 94 => ⟨S4x6000, .f32⟩
  | 95 => ⟨S4x6000, .f32⟩
  | 96 => ⟨S4x1, .f32⟩
  | 97 => ⟨S4, .f32⟩
  | 98 => ⟨S4x6000x1, .f32⟩
  | 99 => ⟨S4x6000, .f32⟩
  | 100 => ⟨S4x1, .f32⟩
  | 101 => ⟨S4x6000, .f32⟩
  | 102 => ⟨S4x6000, .f32⟩
  | 103 => ⟨S4x1, .f32⟩
  | 104 => ⟨S4, .f32⟩
  | 105 => ⟨S4x6000x1, .f32⟩
  | 106 => ⟨S4x6000, .f32⟩
  | 107 => ⟨S4x1, .f32⟩
  | 108 => ⟨S4x6000, .f32⟩
  | 109 => ⟨S4x6000, .f32⟩
  | 110 => ⟨S4x1, .f32⟩
  | 111 => ⟨S4, .f32⟩
  | 112 => ⟨S4x6000x1, .f32⟩
  | 113 => ⟨S4x6000, .f32⟩
  | 114 => ⟨S4x1, .f32⟩
  | 115 => ⟨S4x6000, .f32⟩
  | 116 => ⟨S4x6000, .f32⟩
  | 117 => ⟨S4x6000, .f32⟩
  | 118 => ⟨S_, .f32⟩
  | 119 => ⟨S4x6000, .f32⟩
  | 120 => ⟨S4x6000, .f32⟩
  | 121 => ⟨S4x6000, .f32⟩
  | 122 => ⟨S_, .f32⟩
  | 123 => ⟨S4x6000, .f32⟩
  | 124 => ⟨S4x6000, .f32⟩
  | 125 => ⟨S4x6000, .f32⟩
  | 126 => ⟨S4x1, .f32⟩
  | 127 => ⟨S4, .f32⟩
  | _ => ⟨S4x20000x2, .f32⟩

abbrev hbmTy0_1 (i : Nat) : BufTy := match i % 128 with
  | 0 => ⟨S4x1, .f32⟩
  | 1 => ⟨S4, .f32⟩
  | 2 => ⟨S4, .f32⟩
  | 3 => ⟨S4x1, .f32⟩
  | 4 => ⟨S4, .f32⟩
  | 5 => ⟨S4x1, .f32⟩
  | 6 => ⟨S4, .f32⟩
  | 7 => ⟨S4, .f32⟩
  | 8 => ⟨S4, .f32⟩
  | 9 => ⟨S4x6000x1, .f32⟩
  | 10 => ⟨S4x6000, .f32⟩
  | 11 => ⟨S4x6000x1, .f32⟩
  | 12 => ⟨S4x6000, .f32⟩
  | 13 => ⟨S4x6000, .f32⟩
  | 14 => ⟨S4x6000x1, .f32⟩
  | 15 => ⟨S4x6000, .f32⟩
  | 16 => ⟨S4x6000x1, .f32⟩
  | 17 => ⟨S4x6000, .f32⟩
  | 18 => ⟨S4x6000, .f32⟩
  | 19 => ⟨S4x6000, .f32⟩
  | 20 => ⟨S4x1, .f32⟩
  | 21 => ⟨S4x6000, .f32⟩
  | 22 => ⟨S4x6000, .f32⟩
  | 23 => ⟨S4x6000, .f32⟩
  | 24 => ⟨S_, .f32⟩
  | 25 => ⟨S4x6000, .f32⟩
  | 26 => ⟨S4x6000, .f32⟩
  | 27 => ⟨S4x6000, .f32⟩
  | 28 => ⟨S_, .f32⟩
  | 29 => ⟨S4x6000, .f32⟩
  | 30 => ⟨S4x6000, .i1⟩
  | 31 => ⟨S4x1, .i1⟩
  | 32 => ⟨S4x6000, .i1⟩
  | 33 => ⟨S4x6000, .i1⟩
  | 34 => ⟨S_, .f32⟩
  | 35 => ⟨S_, .f32⟩
  | 36 => ⟨S6000, .f32⟩
  | 37 => ⟨S4x6000, .f32⟩
  | 38 => ⟨S4x6000, .f32⟩
  | 39 => ⟨S6000, .i32⟩
  | 40 => ⟨S1x6000, .i32⟩
  | 41 => ⟨S4x1, .i32⟩
  | 42 => ⟨S4x6000, .i32⟩
  | 43 => ⟨S4x6000, .i32⟩
  | 44 => ⟨S4x6000, .i1⟩
  | 45 => ⟨S_, .f32⟩
  | 46 => ⟨S_, .f32⟩
  | 47 => ⟨S6000, .f32⟩
  | 48 => ⟨S4x6000, .f32⟩
  | 49 => ⟨S4x6000, .f32⟩
  | 50 => ⟨S1x4x4, .f32⟩
  | 51 => ⟨S_, .i32⟩
  | 52 => ⟨S_, .i32⟩
  | 53 => ⟨S1000x4x4, .f32⟩
  | 54 => ⟨S_, .i32⟩
  | 55 => ⟨S_, .i32⟩
  | 56 => ⟨S4x1000x4, .f32⟩
  | _ => ⟨S4x20000x2, .f32⟩

abbrev hbmTy (i : Nat) : BufTy := match i / 128 with
  | 0 => hbmTy0_0 i
  | 1 => hbmTy0_1 i
  | _ => ⟨S4x20000x2, .f32⟩

abbrev bufTy : (tb : Table) → Fin (tcTables nBuf tb) → BufTy
  | .hbm, ⟨i, _⟩ => hbmTy i
  | _, _ => ⟨S4x20000x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst_0 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_cst_1 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_cst_2 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_cst_3 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_values : Ref sig .tc := ⟨.hbm, 62, rfl⟩
abbrev main_indices : Ref sig .tc := ⟨.hbm, 63, rfl⟩
abbrev main_call0_v0 : Ref sig .tc := ⟨.hbm, 64, rfl⟩
abbrev main_v54 : Ref sig .tc := ⟨.hbm, 65, rfl⟩
abbrev main_cst_4 : Ref sig .tc := ⟨.hbm, 66, rfl⟩
abbrev main_v55 : Ref sig .tc := ⟨.hbm, 67, rfl⟩
abbrev main_c : Ref sig .tc := ⟨.hbm, 68, rfl⟩
abbrev main_v56_0 : Ref sig .tc := ⟨.hbm, 69, rfl⟩
abbrev main_v56_1 : Ref sig .tc := ⟨.hbm, 70, rfl⟩
abbrev main_v56_2 : Ref sig .tc := ⟨.hbm, 71, rfl⟩
abbrev main_v56_3 : Ref sig .tc := ⟨.hbm, 72, rfl⟩
abbrev main_while0c_c_8 : Ref sig .tc := ⟨.hbm, 73, rfl⟩
abbrev main_while0c_v58 : Ref sig .tc := ⟨.hbm, 74, rfl⟩
abbrev main_while0b_values_8 : Ref sig .tc := ⟨.hbm, 75, rfl⟩
abbrev main_while0b_indices_9 : Ref sig .tc := ⟨.hbm, 76, rfl⟩
abbrev main_while0b_v58 : Ref sig .tc := ⟨.hbm, 77, rfl⟩
abbrev main_while0b_v59 : Ref sig .tc := ⟨.hbm, 78, rfl⟩
abbrev main_while0b_cst_10 : Ref sig .tc := ⟨.hbm, 79, rfl⟩
abbrev main_while0b_v60 : Ref sig .tc := ⟨.hbm, 80, rfl⟩
abbrev main_while0b_v61 : Ref sig .tc := ⟨.hbm, 81, rfl⟩
abbrev main_while0b_call1_v0 : Ref sig .tc := ⟨.hbm, 82, rfl⟩
abbrev main_while0b_v62 : Ref sig .tc := ⟨.hbm, 83, rfl⟩
abbrev main_while0b_cst_11 : Ref sig .tc := ⟨.hbm, 84, rfl⟩
abbrev main_while0b_v63 : Ref sig .tc := ⟨.hbm, 85, rfl⟩
abbrev main_while0b_call2_v0 : Ref sig .tc := ⟨.hbm, 86, rfl⟩
abbrev main_while0b_call2_v1 : Ref sig .tc := ⟨.hbm, 87, rfl⟩
abbrev main_while0b_v64 : Ref sig .tc := ⟨.hbm, 88, rfl⟩
abbrev main_while0b_v65 : Ref sig .tc := ⟨.hbm, 89, rfl⟩
abbrev main_while0b_v66 : Ref sig .tc := ⟨.hbm, 90, rfl⟩
abbrev main_while0b_v67 : Ref sig .tc := ⟨.hbm, 91, rfl⟩
abbrev main_while0b_v68 : Ref sig .tc := ⟨.hbm, 92, rfl⟩
abbrev main_while0b_v69 : Ref sig .tc := ⟨.hbm, 93, rfl⟩
abbrev main_while0b_v70 : Ref sig .tc := ⟨.hbm, 94, rfl⟩
abbrev main_while0b_v71 : Ref sig .tc := ⟨.hbm, 95, rfl⟩
abbrev main_while0b_v72 : Ref sig .tc := ⟨.hbm, 96, rfl⟩
abbrev main_while0b_v73 : Ref sig .tc := ⟨.hbm, 97, rfl⟩
abbrev main_while0b_v74 : Ref sig .tc := ⟨.hbm, 98, rfl⟩
abbrev main_while0b_v75 : Ref sig .tc := ⟨.hbm, 99, rfl⟩
abbrev main_while0b_v76 : Ref sig .tc := ⟨.hbm, 100, rfl⟩
abbrev main_while0b_v77 : Ref sig .tc := ⟨.hbm, 101, rfl⟩
abbrev main_while0b_v78 : Ref sig .tc := ⟨.hbm, 102, rfl⟩
abbrev main_while0b_v79 : Ref sig .tc := ⟨.hbm, 103, rfl⟩
abbrev main_while0b_v80 : Ref sig .tc := ⟨.hbm, 104, rfl⟩
abbrev main_while0b_v81 : Ref sig .tc := ⟨.hbm, 105, rfl⟩
abbrev main_while0b_v82 : Ref sig .tc := ⟨.hbm, 106, rfl⟩
abbrev main_while0b_v83 : Ref sig .tc := ⟨.hbm, 107, rfl⟩
abbrev main_while0b_v84 : Ref sig .tc := ⟨.hbm, 108, rfl⟩
abbrev main_while0b_v85 : Ref sig .tc := ⟨.hbm, 109, rfl⟩
abbrev main_while0b_v86 : Ref sig .tc := ⟨.hbm, 110, rfl⟩
abbrev main_while0b_v87 : Ref sig .tc := ⟨.hbm, 111, rfl⟩
abbrev main_while0b_v88 : Ref sig .tc := ⟨.hbm, 112, rfl⟩
abbrev main_while0b_v89 : Ref sig .tc := ⟨.hbm, 113, rfl⟩
abbrev main_while0b_v90 : Ref sig .tc := ⟨.hbm, 114, rfl⟩
abbrev main_while0b_v91 : Ref sig .tc := ⟨.hbm, 115, rfl⟩
abbrev main_while0b_v92 : Ref sig .tc := ⟨.hbm, 116, rfl⟩
abbrev main_while0b_v93 : Ref sig .tc := ⟨.hbm, 117, rfl⟩
abbrev main_while0b_cst_12 : Ref sig .tc := ⟨.hbm, 118, rfl⟩
abbrev main_while0b_v94 : Ref sig .tc := ⟨.hbm, 119, rfl⟩
abbrev main_while0b_v95 : Ref sig .tc := ⟨.hbm, 120, rfl⟩
abbrev main_while0b_v96 : Ref sig .tc := ⟨.hbm, 121, rfl⟩
abbrev main_while0b_cst_13 : Ref sig .tc := ⟨.hbm, 122, rfl⟩
abbrev main_while0b_v97 : Ref sig .tc := ⟨.hbm, 123, rfl⟩
abbrev main_while0b_v98 : Ref sig .tc := ⟨.hbm, 124, rfl⟩
abbrev main_while0b_v99 : Ref sig .tc := ⟨.hbm, 125, rfl⟩
abbrev main_while0b_v100 : Ref sig .tc := ⟨.hbm, 126, rfl⟩
abbrev main_while0b_v101 : Ref sig .tc := ⟨.hbm, 127, rfl⟩
abbrev main_while0b_v102 : Ref sig .tc := ⟨.hbm, 128, rfl⟩
abbrev main_while0b_v103 : Ref sig .tc := ⟨.hbm, 129, rfl⟩
abbrev main_while0b_v104 : Ref sig .tc := ⟨.hbm, 130, rfl⟩
abbrev main_while0b_v105 : Ref sig .tc := ⟨.hbm, 131, rfl⟩
abbrev main_while0b_v106 : Ref sig .tc := ⟨.hbm, 132, rfl⟩
abbrev main_while0b_v107 : Ref sig .tc := ⟨.hbm, 133, rfl⟩
abbrev main_while0b_v108 : Ref sig .tc := ⟨.hbm, 134, rfl⟩
abbrev main_while0b_v109 : Ref sig .tc := ⟨.hbm, 135, rfl⟩
abbrev main_while0b_v110 : Ref sig .tc := ⟨.hbm, 136, rfl⟩
abbrev main_while0b_v111 : Ref sig .tc := ⟨.hbm, 137, rfl⟩
abbrev main_while0b_v112 : Ref sig .tc := ⟨.hbm, 138, rfl⟩
abbrev main_while0b_v113 : Ref sig .tc := ⟨.hbm, 139, rfl⟩
abbrev main_while0b_v114 : Ref sig .tc := ⟨.hbm, 140, rfl⟩
abbrev main_while0b_v115 : Ref sig .tc := ⟨.hbm, 141, rfl⟩
abbrev main_while0b_v116 : Ref sig .tc := ⟨.hbm, 142, rfl⟩
abbrev main_while0b_v117 : Ref sig .tc := ⟨.hbm, 143, rfl⟩
abbrev main_while0b_v118 : Ref sig .tc := ⟨.hbm, 144, rfl⟩
abbrev main_while0b_v119 : Ref sig .tc := ⟨.hbm, 145, rfl⟩
abbrev main_while0b_v120 : Ref sig .tc := ⟨.hbm, 146, rfl⟩
abbrev main_while0b_v121 : Ref sig .tc := ⟨.hbm, 147, rfl⟩
abbrev main_while0b_v122 : Ref sig .tc := ⟨.hbm, 148, rfl⟩
abbrev main_while0b_v123 : Ref sig .tc := ⟨.hbm, 149, rfl⟩
abbrev main_while0b_v124 : Ref sig .tc := ⟨.hbm, 150, rfl⟩
abbrev main_while0b_v125 : Ref sig .tc := ⟨.hbm, 151, rfl⟩
abbrev main_while0b_cst_14 : Ref sig .tc := ⟨.hbm, 152, rfl⟩
abbrev main_while0b_v126 : Ref sig .tc := ⟨.hbm, 153, rfl⟩
abbrev main_while0b_v127 : Ref sig .tc := ⟨.hbm, 154, rfl⟩
abbrev main_while0b_v128 : Ref sig .tc := ⟨.hbm, 155, rfl⟩
abbrev main_while0b_cst_15 : Ref sig .tc := ⟨.hbm, 156, rfl⟩
abbrev main_while0b_v129 : Ref sig .tc := ⟨.hbm, 157, rfl⟩
abbrev main_while0b_v130 : Ref sig .tc := ⟨.hbm, 158, rfl⟩
abbrev main_while0b_v131 : Ref sig .tc := ⟨.hbm, 159, rfl⟩
abbrev main_while0b_v132 : Ref sig .tc := ⟨.hbm, 160, rfl⟩
abbrev main_while0b_v133 : Ref sig .tc := ⟨.hbm, 161, rfl⟩
abbrev main_while0b_cst_16 : Ref sig .tc := ⟨.hbm, 162, rfl⟩
abbrev main_while0b_call3_v0 : Ref sig .tc := ⟨.hbm, 163, rfl⟩
abbrev main_while0b_call3_v1 : Ref sig .tc := ⟨.hbm, 164, rfl⟩
abbrev main_while0b_call3_v2 : Ref sig .tc := ⟨.hbm, 165, rfl⟩
abbrev main_while0b_v134 : Ref sig .tc := ⟨.hbm, 166, rfl⟩
abbrev main_while0b_v135 : Ref sig .tc := ⟨.hbm, 167, rfl⟩
abbrev main_while0b_v136 : Ref sig .tc := ⟨.hbm, 168, rfl⟩
abbrev main_while0b_v137 : Ref sig .tc := ⟨.hbm, 169, rfl⟩
abbrev main_while0b_v138 : Ref sig .tc := ⟨.hbm, 170, rfl⟩
abbrev main_while0b_v139 : Ref sig .tc := ⟨.hbm, 171, rfl⟩
abbrev main_while0b_v140 : Ref sig .tc := ⟨.hbm, 172, rfl⟩
abbrev main_while0b_cst_17 : Ref sig .tc := ⟨.hbm, 173, rfl⟩
abbrev main_while0b_call4_v0 : Ref sig .tc := ⟨.hbm, 174, rfl⟩
abbrev main_while0b_call4_v1 : Ref sig .tc := ⟨.hbm, 175, rfl⟩
abbrev main_while0b_call4_v2 : Ref sig .tc := ⟨.hbm, 176, rfl⟩
abbrev main_while0b_v141 : Ref sig .tc := ⟨.hbm, 177, rfl⟩
abbrev main_while0b_call5_v0 : Ref sig .tc := ⟨.hbm, 178, rfl⟩
abbrev main_while0b_call5_c : Ref sig .tc := ⟨.hbm, 179, rfl⟩
abbrev main_while0b_call5_c_0 : Ref sig .tc := ⟨.hbm, 180, rfl⟩
abbrev main_while0b_v142 : Ref sig .tc := ⟨.hbm, 181, rfl⟩
abbrev main_while0b_c_18 : Ref sig .tc := ⟨.hbm, 182, rfl⟩
abbrev main_while0b_v143 : Ref sig .tc := ⟨.hbm, 183, rfl⟩
abbrev main_v57 : Ref sig .tc := ⟨.hbm, 184, rfl⟩

abbrev nD : Nat := 1
abbrev τ : Topo := Topo.v7x

variable {F : FTy → Type} [FloatOps F]

abbrev main_while0_count : Scf.Loop 32 := ⟨0#32, 1000#32, 1#32⟩
-- ==== Proof.Greedy.lean ====
/-
  Greedy suppression on a long list and on its head.

  A round of greedy suppression takes the first of the greatest live scores, writes the score "dead" over the one it took
  and over all it hits, and goes on. Run it on a whole array (`S`, indexed by `α`), and run it on the `K` best entries of
  that array only (`R`, in ranked order). If many enough of the `K` best are hit by no better one, then for that many
  rounds the two runs take the same entry: `lockstep`.
-/
module

public import Mathlib.Data.EReal.Basic
public import Mathlib.Data.Fintype.Card
public import Mathlib.Data.Fintype.Basic
public import Mathlib.Data.Finset.Max

@[expose] public section

namespace Nms

/-- `n` holds the greatest score, and among the entries holding it has the least position. -/
def First {α : Type} (pos : α → ℕ) (s : α → EReal) (n : α) : Prop :=
  (∀ m, s m ≤ s n) ∧ ∀ m, s m = s n → pos n ≤ pos m

/-- At most one entry is first. -/
theorem First.unique {α : Type} {pos : α → ℕ} (hpos : Function.Injective pos) {s : α → EReal} {n m : α}
    (hn : First pos s n) (hm : First pos s m) : n = m := by
  have e : s n = s m := le_antisymm (hm.1 n) (hn.1 m)
  exact hpos (le_antisymm (hn.2 m e.symm) (hm.2 n e))

/-- One round: whenever the first entry is above `half`, it and what it hits get the score `dead`. -/
def Round {α : Type} (pos : α → ℕ) (hit : α → α → Prop) (dead half : EReal) (s s' : α → EReal) : Prop :=
  ∀ n, First pos s n → half < s n → ∀ m, (m = n ∨ hit n m → s' m = dead) ∧ (¬(m = n ∨ hit n m) → s' m = s m)

section
variable {α : Type} {K : ℕ} {pos : α → ℕ} {hit : α → α → Prop} {dead half : EReal}
  {s0 : α → EReal} {idx : Fin K → α} {S : ℕ → α → EReal} {R : ℕ → Fin K → EReal}

/-- What the `K` best entries are: every one is above `half`, they stand in the order "greater score, then smaller
    position", and all other entries come after them. -/
structure Best (pos : α → ℕ) (half : EReal) (s0 : α → EReal) (idx : Fin K → α) : Prop where
  inj : Function.Injective idx
  live : ∀ p, half < s0 (idx p)
  ordered : ∀ p q, p < q → s0 (idx q) < s0 (idx p) ∨ (s0 (idx q) = s0 (idx p) ∧ pos (idx p) < pos (idx q))
  rest : ∀ n, (∀ p, idx p ≠ n) → ∀ p, s0 n < s0 (idx p) ∨ (s0 n = s0 (idx p) ∧ pos (idx p) < pos n)

/-- The ranked positions hit by no better one. -/
def Free (hit : α → α → Prop) (idx : Fin K → α) (p : Fin K) : Prop := ∀ q, q < p → ¬ hit (idx q) (idx p)

/-- What holds before round `i`: the short run is the long one read at the best entries; a score is the first one or
    dead; and of the free entries at most `i` are dead. -/
structure Inv (hit : α → α → Prop) (dead : EReal) (s0 : α → EReal) (idx : Fin K → α) (N i : ℕ)
    (s : α → EReal) (r : Fin K → EReal) : Prop where
  same : ∀ p, r p = s (idx p)
  kept : ∀ n, s n = dead ∨ s n = s0 n
  many : ∃ A : Finset (Fin K), (∀ p ∈ A, Free hit idx p ∧ s (idx p) ≠ dead) ∧ N ≤ i + A.card

/-- While a free entry is alive, both runs take the same entry: the best live one. -/
theorem Inv.pick (hb : Best pos half s0 idx) (hdead : dead < half) {N i : ℕ} {s : α → EReal} {r : Fin K → EReal}
    (h : Inv hit dead s0 idx N i s r) (hi : i < N) :
    ∃ p, First Fin.val r p ∧ First pos s (idx p) ∧ half < s (idx p) ∧ ∀ q, s (idx q) ≠ dead → p ≤ q := by
  classical
  obtain ⟨A, hA, hc⟩ := h.many
  have hne : A.Nonempty := by
    rw [Finset.nonempty_iff_ne_empty]
    rintro rfl
    rw [Finset.card_empty] at hc
    omega
  obtain ⟨a, ha⟩ := hne
  have hLne : (Finset.univ.filter fun p : Fin K => s (idx p) ≠ dead).Nonempty :=
    ⟨a, Finset.mem_filter.mpr ⟨Finset.mem_univ _, (hA a ha).2⟩⟩
  obtain ⟨p, hp, hmin⟩ := Finset.exists_min_image _ (fun p : Fin K => p) hLne
  have hpl : s (idx p) ≠ dead := (Finset.mem_filter.mp hp).2
  have hmin' : ∀ q, s (idx q) ≠ dead → p ≤ q := fun q hq => hmin q (Finset.mem_filter.mpr ⟨Finset.mem_univ _, hq⟩)
  have hps : s (idx p) = s0 (idx p) := (h.kept _).resolve_left hpl
  have hhalf : half < s (idx p) := hps ▸ hb.live p
  have hdl : dead < s (idx p) := hdead.trans hhalf
  -- every entry is below the best live one, or as great and at a later position
  have key : ∀ n, s n < s (idx p) ∨ (s n = s (idx p) ∧ (n = idx p ∨ pos (idx p) < pos n)) := by
    intro n
    rcases h.kept n with hn | hn
    · exact Or.inl (hn ▸ hdl)
    · by_cases hm : ∃ q, idx q = n
      · obtain ⟨q, rfl⟩ := hm
        by_cases hq : s (idx q) = dead
        · exact Or.inl (hq ▸ hdl)
        · rcases (hmin' q hq).lt_or_eq with hlt | rfl
          · rw [hn, hps]
            rcases hb.ordered p q hlt with h1 | ⟨h1, h2⟩
            · exact Or.inl h1
            · exact Or.inr ⟨h1, Or.inr h2⟩
          · exact Or.inr ⟨rfl, Or.inl rfl⟩
      · rw [hn, hps]
        rcases hb.rest n (fun q hq => hm ⟨q, hq⟩) p with h1 | ⟨h1, h2⟩
        · exact Or.inl h1
        · exact Or.inr ⟨h1, Or.inr h2⟩
  refine ⟨p, ⟨fun q => ?_, fun q hq => ?_⟩, ⟨fun n => ?_, fun n hn => ?_⟩, hhalf, hmin'⟩
  · rw [h.same, h.same]
    rcases key (idx q) with h1 | ⟨h1, -⟩
    · exact h1.le
    · exact h1.le
  · rw [h.same, h.same] at hq
    exact hmin' q (fun hd => by rw [hd] at hq; exact absurd hq hdl.ne)
  · rcases key n with h1 | ⟨h1, -⟩
    · exact h1.le
    · exact h1.le
  · rcases key n with h1 | ⟨-, rfl | h1⟩
    · exact absurd hn h1.ne
    · exact le_rfl
    · exact h1.le

/-- A round keeps the invariant. -/
theorem Inv.step (hb : Best pos half s0 idx) (hdead : dead < half) {N i : ℕ} {s s' : α → EReal} {r r' : Fin K → EReal}
    (h : Inv hit dead s0 idx N i s r) (hi : i < N) (hs : Round pos hit dead half s s')
    (hr : Round Fin.val (fun q p => hit (idx q) (idx p)) dead half r r') : Inv hit dead s0 idx N (i + 1) s' r' := by
  classical
  obtain ⟨p, hpr, hps, hhalf, hmin⟩ := h.pick hb hdead hi
  have hs' := hs (idx p) hps hhalf
  have hr' := hr p hpr (by rw [h.same]; exact hhalf)
  refine ⟨fun q => ?_, fun n => ?_, ?_⟩
  · by_cases hq : q = p ∨ hit (idx p) (idx q)
    · rw [(hr' q).1 hq, (hs' (idx q)).1 (hq.imp_left fun e => congrArg idx e)]
    · rw [(hr' q).2 hq, (hs' (idx q)).2 (fun hq' => hq (hq'.imp_left fun e => hb.inj e)), h.same]
  · by_cases hn : n = idx p ∨ hit (idx p) n
    · exact Or.inl ((hs' n).1 hn)
    · rw [(hs' n).2 hn]; exact h.kept n
  · obtain ⟨A, hA, hc⟩ := h.many
    refine ⟨A.erase p, fun q hq => ?_, ?_⟩
    · obtain ⟨hqp, hqA⟩ := Finset.mem_erase.mp hq
      obtain ⟨hf, hl⟩ := hA q hqA
      refine ⟨hf, ?_⟩
      have hlt : p < q := lt_of_le_of_ne (hmin q hl) (Ne.symm hqp)
      have hn : ¬(idx q = idx p ∨ hit (idx p) (idx q)) := by
        rintro (e | e)
        · exact hqp (hb.inj e)
        · exact hf p hlt e
      rw [(hs' (idx q)).2 hn]
      exact hl
    · have := Finset.pred_card_le_card_erase (s := A) (a := p)
      omega

/-- The two runs, for as many rounds as there are free entries among the best: before every such round the invariant
    holds, so that (`Inv.pick`) both take the same entry, and that entry is alive. -/
theorem lockstep (hb : Best pos half s0 idx) (hdead : dead < half) {N : ℕ}
    (hfree : ∃ A : Finset (Fin K), (∀ p ∈ A, Free hit idx p) ∧ N ≤ A.card)
    (hS0 : ∀ n, S 0 n = s0 n) (hR0 : ∀ p, R 0 p = s0 (idx p))
    (hS : ∀ i, i < N → Round pos hit dead half (S i) (S (i + 1)))
    (hR : ∀ i, i < N → Round Fin.val (fun q p => hit (idx q) (idx p)) dead half (R i) (R (i + 1))) :
    ∀ i, i ≤ N → Inv hit dead s0 idx N i (S i) (R i)
  | 0, _ => by
    obtain ⟨A, hA, hc⟩ := hfree
    refine ⟨fun p => by rw [hR0, hS0], fun n => Or.inr (hS0 n), A, fun p hp => ⟨hA p hp, ?_⟩, by omega⟩
    rw [hS0]
    exact (hdead.trans (hb.live p)).ne'
  | i + 1, hi => (lockstep hb hdead hfree hS0 hR0 hS hR i (Nat.le_of_succ_le hi)).step hb hdead hi (hS i hi) (hR i hi)

end

end Nms

end
-- ==== Proof.Boxes.lean ====
/-
  The arithmetic of one box and of one pair of boxes, over the extended reals.

  A box is decoded from four anchor coordinates and four deltas, axis by axis: the extent is the anchor's, scaled; the
  lower end is the anchor's centre, moved, less half the extent; the upper end is the lower end and the extent. Two boxes
  are compared by intersection over union. The constants are the words that both programs write.
-/
module

public import Idealize.ShloMosaic.Lib.Pointwise

@[expose] public section

noncomputable section

namespace Nms

open Idealize.ShloMosaic

/-- The scores' constants: what a taken or suppressed entry gets, half of it, and the padding threshold -0.5. -/
def dead : EReal := Ideal.ofBits .f32 0xCE6E6B28#32
def deadHalf : EReal := Ideal.ofBits .f32 0xCDEE6B28#32
def floor : EReal := Ideal.ofBits .f32 0xBF000000#32

/-- One half, the deltas' two scales, and the term that keeps the union off zero. -/
def half : EReal := Ideal.ofBits .f32 0x3F000000#32
def tenth : EReal := Ideal.ofBits .f32 0x3DCCCCCD#32
def fifth : EReal := Ideal.ofBits .f32 0x3E4CCCCD#32
def tiny : EReal := Ideal.ofBits .f32 0x322BCC77#32

/-- The scaled extent of the anchor `[lo, hi]`. -/
def extent (lo hi e : EReal) : EReal := (hi - lo) * Ideal.exp (e * fifth)

/-- The lower end. -/
def lower (lo hi p e : EReal) : EReal := lo + half * (hi - lo) + p * tenth * (hi - lo) - half * extent lo hi e

/-- The upper end. -/
def upper (lo hi p e : EReal) : EReal := lower lo hi p e + extent lo hi e

/-- The box decoded from the anchor `a` and the deltas `d`: lower ends on the two axes, then upper ends. -/
def decode (a d : Fin 4 → EReal) : Fin 4 → EReal :=
  ![lower (a 0) (a 2) (d 0) (d 2), lower (a 1) (a 3) (d 1) (d 3),
    upper (a 0) (a 2) (d 0) (d 2), upper (a 1) (a 3) (d 1) (d 3)]

/-- The area of a box. -/
def area (p : Fin 4 → EReal) : EReal := (p 2 - p 0) * (p 3 - p 1)

/-- The area of the intersection. -/
def inter (p q : Fin 4 → EReal) : EReal :=
  max (min (p 2) (q 2) - max (p 0) (q 0)) 0 * max (min (p 3) (q 3) - max (p 1) (q 1)) 0

/-- Intersection over union. -/
def iou (p q : Fin 4 → EReal) : EReal := Ideal.div (inter p q) (area p + area q - inter p q + tiny)

/-- `p` suppresses `q`. -/
def hits (p q : Fin 4 → EReal) : Prop := half < iou p q

instance hitsDecidable (p q : Fin 4 → EReal) : Decidable (hits p q) := inferInstanceAs (Decidable (half < iou p q))

end Nms

end
-- ==== Proof.KernelRound.lean ====
/-
  One trip of the kernel's loop, read at an entry.

  The scores `s` and the four box arrays are blocks of 157 rows of 128 lanes per sample; entry `(r, l)` of a sample has the
  position `128 r + l`. Where `n` is the sample's first entry (greatest score, least position), the trip's maximum is its
  score, the mask selects it and no other entry, the four masked sums are its box; so the row the trip stores is its
  box, and the scores it passes on are dead at `n` and at every entry its box suppresses (`round`, `row_eq`).
-/
module

public import proofs.«01_k».proof.Proof.Gen.KernelIdeal.Skeleton
public import proofs.«01_k».proof.Proof.Greedy
public import proofs.«01_k».proof.Proof.Boxes
public import Idealize.ShloMosaic.Lib.SortNet.Extract
public import Idealize.ShloMosaic.Lib.WordCmp

@[expose] public section

set_option maxRecDepth 16384

noncomputable section

namespace Nms

open Idealize.ShloMosaic Idealize.ShloMosaic.Pointwise Cert.KernelIdeal Cert.KernelIdeal.Gen

/-- An entry of one sample's block, and its position. -/
abbrev Cell : Type := Fin 157 × Fin 128
def cellPos (n : Cell) : ℕ := n.1.val * 128 + n.2.val

theorem cellPos_lt (n : Cell) : cellPos n < 20096 := by
  have h1 := n.1.isLt
  have h2 := n.2.isLt
  unfold cellPos
  omega

theorem cellPos_injective : Function.Injective cellPos := by
  intro n m h
  have h1 := n.2.isLt
  have h2 := m.2.isLt
  unfold cellPos at h
  exact Prod.ext (Fin.ext (by omega)) (Fin.ext (by omega))

/-- A sample's block, as a function of the entry. -/
def cells {α : Type} (x : S4x157x128.Idx → α) (b : Fin 4) (n : Cell) : α := x (ix3 b n.1 n.2)

/-- The word of an entry's position. -/
theorem pos_word (n : Cell) : k0_pay8 (ix3 0 n.1 n.2) = BitVec.ofNat 32 (cellPos n) := by
  pointwise [k0_pay8]
  unfold cellPos IntOp.addi IntOp.muli
  rw [BitVec.ofNat_add, BitVec.ofNat_mul]

theorem toInt_pos (n : Cell) : (BitVec.ofNat 32 (cellPos n)).toInt = cellPos n := by
  have h := cellPos_lt n
  rw [BitVec.toInt_ofNat']
  exact Int.bmod_eq_of_le (by omega) (by omega)

theorem bot_word : Ideal.ofBits .f32 0xFF800000#32 = (⊥ : EReal) := by
  simp [Ideal.ofBits, Ideal.ieee]

/-- Equality of words, as a bit. -/
theorem cmpi_eq (x y : BitVec 32) : IntOp.cmpi .eq x y = BitVec.ofBool (decide (x = y)) := by
  unfold IntOp.cmpi
  by_cases h : x = y
  · subst h
    simp
  · rw [decide_eq_false h]
    exact congrArg BitVec.ofBool (beq_false_of_ne h)

/-- A fold of the signed minimum, in integers: below the initial value and every entry, and one of these. -/
theorem fold_minsi_spec {ι : Type} [DecidableEq ι] (g : ι → BitVec 32) (s : Finset ι) (init : BitVec 32) :
    (∀ i ∈ s, (s.fold IntOp.minsi init g).toInt ≤ (g i).toInt) ∧
      (s.fold IntOp.minsi init g = init ∨ ∃ i ∈ s, s.fold IntOp.minsi init g = g i) := by
  induction s using Finset.induction_on with
  | empty => exact ⟨fun i hi => absurd hi (Finset.notMem_empty i), Or.inl (by rw [Finset.fold_empty])⟩
  | insert a s has ih =>
    obtain ⟨h1, h2⟩ := ih
    rw [Finset.fold_insert has]
    have hm := SortNet.toInt_minsi (g a) (s.fold IntOp.minsi init g)
    refine ⟨fun i hi => ?_, ?_⟩
    · rw [hm]
      rcases Finset.mem_insert.mp hi with rfl | hi
      · exact min_le_left _ _
      · exact (min_le_right _ _).trans (h1 i hi)
    · unfold IntOp.minsi
      split
      · exact Or.inr ⟨a, Finset.mem_insert_self a s, rfl⟩
      · rcases h2 with h2 | ⟨i, hi, h2⟩
        · exact Or.inl h2
        · exact Or.inr ⟨i, Finset.mem_insert_of_mem hi, h2⟩

section
variable {s : FVec Ideal S4x157x128 .f32} {b : Fin 4} {n : Cell}

/-- The trip's maximum. -/
theorem max_eq (hn : First cellPos (cells s b) n) : k0_pay11 s (ix3 b 0 0) = cells s b n := by
  pointwise [k0_pay11]
  refine le_antisymm ?_ ?_
  · rw [Finset.fold_max_le]
    exact ⟨by rw [bot_word]; exact bot_le, fun m _ => hn.1 m⟩
  · rw [Finset.le_fold_max]
    exact Or.inr ⟨n, Finset.mem_univ n, le_rfl⟩

/-- Whether the trip found a live entry. -/
theorem found_eq (hn : First cellPos (cells s b) n) :
    k0_pay12 s (ix3 b 0 0) = BitVec.ofBool (decide (deadHalf < cells s b n)) := by
  rw [← max_eq hn]
  pointwise [k0_pay12]
  rfl

/-- The mask selects the first entry alone. -/
theorem mask_eq (hn : First cellPos (cells s b) n) (m : Cell) :
    k0_pay13 k0_pay8 s (ix3 b m.1 m.2) = BitVec.ofBool (decide (m = n)) := by
  pointwise [k0_pay13]
  simp only [max_eq hn, pos_word]
  have hfold : Finset.univ.fold IntOp.minsi 2147483647#32
      (fun x : Cell => if s (ix3 b x.1 x.2) = cells s b n then BitVec.ofNat 32 (cellPos x) else 2147483647#32)
      = BitVec.ofNat 32 (cellPos n) := by
    obtain ⟨h1, h2⟩ := fold_minsi_spec
      (fun x : Cell => if s (ix3 b x.1 x.2) = cells s b n then BitVec.ofNat 32 (cellPos x) else 2147483647#32)
      Finset.univ 2147483647#32
    have hn1 := h1 n (Finset.mem_univ n)
    rw [if_pos (show s (ix3 b n.1 n.2) = cells s b n from rfl), toInt_pos] at hn1
    have hlt := cellPos_lt n
    have hbig : (2147483647#32 : BitVec 32).toInt = 2147483647 := by decide
    rcases h2 with h2 | ⟨x, -, h2⟩
    · rw [h2, hbig] at hn1
      omega
    · by_cases hx : s (ix3 b x.1 x.2) = cells s b n
      · rw [if_pos hx] at h2
        rw [h2, toInt_pos] at hn1
        rw [h2, le_antisymm (by exact_mod_cast hn1) (hn.2 x hx)]
      · rw [if_neg hx] at h2
        rw [h2, hbig] at hn1
        omega
  rw [hfold]
  refine (cmpi_eq _ _).trans (congrArg BitVec.ofBool (decide_eq_decide.mpr ⟨fun h => ?_, fun h => by rw [h]⟩))
  have h' := congrArg BitVec.toInt h
  rw [toInt_pos, toInt_pos] at h'
  exact cellPos_injective (by exact_mod_cast h')

/-- A sum over the block of one masked entry. -/
theorem pick_eq (hn : First cellPos (cells s b) n) (v : FVec Ideal S4x157x128 .f32) :
    (∑ x : Fin 157, ∑ y : Fin 128, Scalar.select (k0_pay13 k0_pay8 s (ix3 b x y)) (v (ix3 b x y)) (0 : EReal))
      = cells v b n := by
  have e : ∀ x : Fin 157, ∀ y : Fin 128, Scalar.select (k0_pay13 k0_pay8 s (ix3 b x y)) (v (ix3 b x y)) (0 : EReal)
      = if (x, y) = n then v (ix3 b x y) else 0 := by
    intro x y
    rw [mask_eq hn (x, y), WordCmp.select_ofBool]
    by_cases h : (x, y) = n <;> simp [h]
  simp only [e]
  rw [← Fintype.sum_prod_type' (fun x y => if (x, y) = n then v (ix3 b x y) else 0)]
  exact (Finset.sum_ite_eq' Finset.univ n (fun x : Cell => v (ix3 b x.1 x.2))).trans (if_pos (Finset.mem_univ n))

/-- What the four masked sums give. -/
theorem picks_eq (hn : First cellPos (cells s b) n) (v : FVec Ideal S4x157x128 .f32) :
    k0_pay14 v k0_pay8 s (ix3 b 0 0) = cells v b n ∧ k0_pay15 v k0_pay8 s (ix3 b 0 0) = cells v b n ∧
      k0_pay16 v k0_pay8 s (ix3 b 0 0) = cells v b n ∧ k0_pay17 v k0_pay8 s (ix3 b 0 0) = cells v b n := by
  refine ⟨?_, ?_, ?_, ?_⟩
  · refine Eq.trans ?_ (pick_eq hn v)
    pointwise [k0_pay14]
  · refine Eq.trans ?_ (pick_eq hn v)
    pointwise [k0_pay15]
  · refine Eq.trans ?_ (pick_eq hn v)
    pointwise [k0_pay16]
  · refine Eq.trans ?_ (pick_eq hn v)
    pointwise [k0_pay17]

/-- The boxes of a sample, from the four coordinate blocks. -/
def boxes (y1 x1 y2 x2 : FVec Ideal S4x157x128 .f32) (b : Fin 4) (n : Cell) : Fin 4 → EReal :=
  ![cells y1 b n, cells x1 b n, cells y2 b n, cells x2 b n]

/-- The scores a trip passes on. -/
def next (y1 x1 y2 x2 ar s : FVec Ideal S4x157x128 .f32) : FVec Ideal S4x157x128 .f32 :=
  k0_pay20 ar s (k0_pay12 s) (k0_pay13 k0_pay8 s) (k0_pay14 y1 k0_pay8 s) (k0_pay15 x1 k0_pay8 s)
    (k0_pay16 y2 k0_pay8 s) (k0_pay17 x2 k0_pay8 s) (k0_pay18 y1 y2 k0_pay8 s) (k0_pay19 x1 x2 k0_pay8 s)

/-- The row a trip stores. -/
def row (y1 x1 y2 x2 s : FVec Ideal S4x157x128 .f32) : FVec Ideal S4x1x4 .f32 :=
  k0_pay10 (k0_pay12 s) (k0_pay17 x2 k0_pay8 s)
    (k0_pay21 (iota .tc S1x1x4 32 [2] iota_S1x1x4_d2_w32) (k0_pay14 y1 k0_pay8 s) (k0_pay15 x1 k0_pay8 s)
      (k0_pay16 y2 k0_pay8 s)) (Scalar.ofBits .f32 0x00000000#32)
    (k0_pay22 (iota .tc S1x1x4 32 [2] iota_S1x1x4_d2_w32))

/-- A trip is one round of the suppression. -/
theorem round (y1 x1 y2 x2 ar s : FVec Ideal S4x157x128 .f32) (b : Fin 4)
    (har : ∀ m, cells ar b m = area (boxes y1 x1 y2 x2 b m)) :
    Round cellPos (fun n m => hits (boxes y1 x1 y2 x2 b n) (boxes y1 x1 y2 x2 b m)) dead deadHalf (cells s b)
      (cells (next y1 x1 y2 x2 ar s) b) := by
  intro n hn hlive m
  have hstep : cells (next y1 x1 y2 x2 ar s) b m
      = if m = n ∨ hits (boxes y1 x1 y2 x2 b n) (boxes y1 x1 y2 x2 b m) then dead else cells s b m := by
    unfold cells next
    pointwise [k0_pay20, k0_pay18, k0_pay19]
    rw [mask_eq hn m, found_eq hn, (picks_eq hn y1).1, (picks_eq hn x1).2.1, (picks_eq hn y2).2.2.1,
      (picks_eq hn x2).2.2.2]
    rw [decide_eq_true hlive, WordCmp.select_ofBool, show ar (ix3 b m.1 m.2) = area (boxes y1 x1 y2 x2 b m) from har m]
    by_cases hm : m = n
    · rw [if_pos (by rw [decide_eq_true hm]), if_pos (Or.inl hm)]
      rfl
    · rw [if_neg (by rw [decide_eq_false hm]; exact Bool.false_ne_true)]
      by_cases hh : hits (boxes y1 x1 y2 x2 b n) (boxes y1 x1 y2 x2 b m)
      · rw [if_pos (Or.inr hh)]
        refine (congrArg (fun w => Scalar.select (IntOp.andi (BitVec.ofBool w) (BitVec.ofBool true)) _ _)
          (decide_eq_true hh)).trans ?_
        rfl
      · rw [if_neg (not_or.mpr ⟨hm, hh⟩)]
        refine (congrArg (fun w => Scalar.select (IntOp.andi (BitVec.ofBool w) (BitVec.ofBool true)) _ _)
          (decide_eq_false hh)).trans ?_
        rfl
  rw [hstep]
  exact ⟨fun h => if_pos h, fun h => if_neg h⟩

/-- A trip stores the box it took. -/
theorem row_eq (y1 x1 y2 x2 : FVec Ideal S4x157x128 .f32) (hn : First cellPos (cells s b) n)
    (hlive : deadHalf < cells s b n) (k : Fin 4) :
    row y1 x1 y2 x2 s (ix3 b 0 k) = boxes y1 x1 y2 x2 b n k := by
  unfold row
  pointwise [k0_pay10, k0_pay21, k0_pay22]
  rw [found_eq hn, (picks_eq hn y1).1, (picks_eq hn x1).2.1, (picks_eq hn y2).2.2.1,
      (picks_eq hn x2).2.2.2]
  rw [decide_eq_true hlive]
  have hz : ∀ x y z w : EReal, (![x, y, z, w] : Fin 4 → EReal) k
      = Scalar.select (IntOp.cmpi .eq (BitVec.ofNat 32 k) 0#32) x 0
        + Scalar.select (IntOp.cmpi .eq (BitVec.ofNat 32 k) 1#32) y 0
        + Scalar.select (IntOp.cmpi .eq (BitVec.ofNat 32 k) 2#32) z 0
        + Scalar.select (IntOp.cmpi .eq (BitVec.ofNat 32 k) 3#32) w 0 := by
    intro x y z w
    fin_cases k <;> simp [Scalar.select, IntOp.cmpi]
  exact (hz _ _ _ _).symm

end

end Nms

end
-- ==== Proof.KernelRun.lean ====
/-
  The kernel's loop, and the block it leaves in the output window.

  The loop carries the scores: before trip `i` it holds the first scores after `i` rounds (`next`), and the stores so far
  are the rows (`row`) of the trips before, each at its own row of the block. So entry `(b, i, k)` of the block is
  coordinate `k` of the row stored by trip `i` for sample `b` (`block_eq`).
-/
module

public import proofs.«01_k».proof.Proof.Gen.KernelIdeal.Value
public import proofs.«01_k».proof.Proof.KernelRound

@[expose] public section

set_option maxRecDepth 16384

noncomputable section

namespace Nms

open Idealize.ShloMosaic Idealize.ShloMosaic.Pointwise Cert.KernelIdeal Cert.KernelIdeal.Gen

section
variable (𝒱 : Variants) (c : Dev nD) (bd : Option 𝒱.V)
  (arg0 : Memref sig .tc .vmem S4x157x128 .f32) (harg0 : arg0.IsWhole)
  (arg1 : Memref sig .tc .vmem S4x157x128 .f32) (harg1 : arg1.IsWhole)
  (arg2 : Memref sig .tc .vmem S4x157x128 .f32) (harg2 : arg2.IsWhole)
  (arg3 : Memref sig .tc .vmem S4x157x128 .f32) (harg3 : arg3.IsWhole)
  (arg4 : Memref sig .tc .vmem S4x157x128 .f32) (harg4 : arg4.IsWhole)
  (arg5 : Memref sig .tc .vmem S4x157x128 .f32) (harg5 : arg5.IsWhole)
  (arg6 : Memref sig .tc .vmem S4x157x128 .f32) (harg6 : arg6.IsWhole)
  (arg7 : Memref sig .tc .vmem S4x157x128 .f32) (harg7 : arg7.IsWhole)
  (arg8 : Memref sig .tc .vmem S4x157x128 .f32) (harg8 : arg8.IsWhole)
  (arg9 : Memref sig .tc .vmem S4x1000x4 .f32) (harg9 : arg9.IsWhole)
  (v3 v5 v13 v17 v21 v25 v26 v27 : FVec Ideal S4x157x128 .f32) (cst : Ideal .f32)

/-- The loop's carried value and stores before trip `i`, from the first scores `s0`. -/
abbrev state (s0 : FVec Ideal S4x157x128 .f32) (i : ℕ) :=
  st_k0_t1 (F := Ideal) 𝒱 c bd arg0 harg0 arg1 harg1 arg2 harg2 arg3 harg3 arg4 harg4 arg5 harg5 arg6 harg6 arg7 harg7 arg8 harg8 arg9 harg9
    v3 v5 v13 v17 v21 v25 v26 v27 cst (iota .tc S1x1x4 32 [2] iota_S1x1x4_d2_w32) s0 i

/-- The scores a trip of this loop passes on, and the row it stores. -/
abbrev nextOf (s : FVec Ideal S4x157x128 .f32) : FVec Ideal S4x157x128 .f32 :=
  next (k0_pay3 v3 v13 v21 v26 cst) (k0_pay4 v5 v17 v25 v27) (k0_pay5 v3 v13 v21 v26 cst) (k0_pay6 v5 v17 v25 v27)
    (k0_pay7 v3 v5 v13 v17 v21 v25 v26 v27 cst) s
abbrev rowOf (s : FVec Ideal S4x157x128 .f32) : FVec Ideal S4x1x4 .f32 :=
  row (k0_pay3 v3 v13 v21 v26 cst) (k0_pay4 v5 v17 v25 v27) (k0_pay5 v3 v13 v21 v26 cst) (k0_pay6 v5 v17 v25 v27) s

theorem trip_scores (k : Fin k0_t1_loop.trips) (acc : FVec Ideal S4x157x128 .f32) :
    tripR_k0_t1 (F := Ideal) 𝒱 c bd arg0 harg0 arg1 harg1 arg2 harg2 arg3 harg3 arg4 harg4 arg5 harg5 arg6 harg6 arg7 harg7 arg8 harg8 arg9 harg9
        v3 v5 v13 v17 v21 v25 v26 v27 cst (iota .tc S1x1x4 32 [2] iota_S1x1x4_d2_w32) k acc
      = nextOf v3 v5 v13 v17 v21 v25 v26 v27 cst acc := by
  unfold tripR_k0_t1 trip_k0_t1
  dsimp only
  unfold trip_k0_t1.sl.r_6
  unfold trip_k0_t1.sl.r_3 trip_k0_t1.sl.r_2 trip_k0_t1.sl.r_1 trip_k0_t1.sl.r_4 trip_k0_t1.sl.r_5 trip_k0_t1.sl.r
  unfold nextOf next
  with_reducible rfl

theorem trip_row (k : Fin k0_t1_loop.trips) (acc : FVec Ideal S4x157x128 .f32) :
    tripL_k0_t1 (F := Ideal) 𝒱 c bd arg0 harg0 arg1 harg1 arg2 harg2 arg3 harg3 arg4 harg4 arg5 harg5 arg6 harg6 arg7 harg7 arg8 harg8 arg9 harg9
        v3 v5 v13 v17 v21 v25 v26 v27 cst (iota .tc S1x1x4 32 [2] iota_S1x1x4_d2_w32) k acc
      = [⟨Rect.unit (k0_off1 k) ![4, 1, 4] (k0_off1_inb k), rowOf v3 v5 v13 v17 v21 v25 v26 v27 cst acc⟩] := by
  unfold tripL_k0_t1 trip_k0_t1 rowOf row
  rfl

/-- The scores before trip `i`. -/
theorem state_scores (s0 : FVec Ideal S4x157x128 .f32) (i : ℕ) (hi : i ≤ k0_t1_loop.trips) :
    (state 𝒱 c bd arg0 harg0 arg1 harg1 arg2 harg2 arg3 harg3 arg4 harg4 arg5 harg5 arg6 harg6 arg7 harg7 arg8 harg8 arg9 harg9
        v3 v5 v13 v17 v21 v25 v26 v27 cst s0 i).1 = (nextOf v3 v5 v13 v17 v21 v25 v26 v27 cst)^[i] s0 := by
  induction i with
  | zero => rfl
  | succ i ih =>
    rw [Function.iterate_succ_apply', ← ih (Nat.le_of_succ_le hi)]
    unfold state
    rw [st_k0_t1_succ (k := ⟨i, hi⟩), trip_scores]

/-- Every store before trip `i` is an earlier trip's row. -/
theorem state_stores (s0 : FVec Ideal S4x157x128 .f32) (i : ℕ) (hi : i ≤ k0_t1_loop.trips) :
    ∀ p ∈ (state 𝒱 c bd arg0 harg0 arg1 harg1 arg2 harg2 arg3 harg3 arg4 harg4 arg5 harg5 arg6 harg6 arg7 harg7 arg8 harg8 arg9 harg9
        v3 v5 v13 v17 v21 v25 v26 v27 cst s0 i).2, ∃ j : Fin k0_t1_loop.trips,
      p = ⟨Rect.unit (k0_off1 j) ![4, 1, 4] (k0_off1_inb j),
        rowOf v3 v5 v13 v17 v21 v25 v26 v27 cst ((nextOf v3 v5 v13 v17 v21 v25 v26 v27 cst)^[j.val] s0)⟩ := by
  induction i with
  | zero =>
    intro p hp
    exact absurd hp (List.not_mem_nil)
  | succ i ih =>
    intro p hp
    unfold state at hp
    rw [st_k0_t1_succ (k := ⟨i, hi⟩), trip_row] at hp
    rcases List.mem_append.mp hp with h | h
    · refine ⟨⟨i, hi⟩, ?_⟩
      rw [← state_scores 𝒱 c bd arg0 harg0 arg1 harg1 arg2 harg2 arg3 harg3 arg4 harg4 arg5 harg5 arg6 harg6 arg7 harg7 arg8 harg8 arg9 harg9 v3 v5 v13 v17 v21 v25 v26 v27 cst s0 i (Nat.le_of_succ_le hi)]
      exact List.mem_singleton.mp h
    · exact ih (Nat.le_of_succ_le hi) p h

end

theorem trips_eq : k0_t1_loop.trips = 1000 := by decide +kernel

/-- Trip `j` stores at row `j`. -/
theorem off_eq (j : Fin k0_t1_loop.trips) : k0_off1 j = ![0, j.val, 0] := by
  have hj : j.val < 1000 := trips_eq ▸ j.isLt
  have e : (Scalar.indexCast (Scf.iv (0#32) (1#32) j)).toNat = j.val := by
    show (0#32 + BitVec.ofNat 32 j.val * 1#32).toNat = j.val
    rw [BitVec.mul_one, BitVec.zero_add, BitVec.toNat_ofNat]
    exact Nat.mod_eq_of_lt (by omega)
  unfold k0_off1
  exact congrArg (fun n => ![0, n, 0]) e

section
variable (x0 x1 x2 x3 x4 x5 x6 x7 x8 : FVec Ideal S4x157x128 .f32)

/-- The four coordinate blocks, the areas and the first scores, from the nine input blocks: scores, anchors, deltas. -/
def blkY1 : FVec Ideal S4x157x128 .f32 :=
  k0_pay3 (k0_pay24 x1) (k0_pay26 x5) (k0_pay28 x7) (k0_pay30 x1 x3) (Scalar.ofBits .f32 0x3F000000#32)
def blkX1 : FVec Ideal S4x157x128 .f32 := k0_pay4 (k0_pay25 x2) (k0_pay27 x6) (k0_pay29 x8) (k0_pay31 x2 x4)
def blkY2 : FVec Ideal S4x157x128 .f32 :=
  k0_pay5 (k0_pay24 x1) (k0_pay26 x5) (k0_pay28 x7) (k0_pay30 x1 x3) (Scalar.ofBits .f32 0x3F000000#32)
def blkX2 : FVec Ideal S4x157x128 .f32 := k0_pay6 (k0_pay25 x2) (k0_pay27 x6) (k0_pay29 x8) (k0_pay31 x2 x4)
def blkArea : FVec Ideal S4x157x128 .f32 :=
  k0_pay7 (k0_pay24 x1) (k0_pay25 x2) (k0_pay26 x5) (k0_pay27 x6) (k0_pay28 x7) (k0_pay29 x8) (k0_pay30 x1 x3)
    (k0_pay31 x2 x4) (Scalar.ofBits .f32 0x3F000000#32)
def blkScore : FVec Ideal S4x157x128 .f32 := k0_pay9 (k0_pay23 x0)

/-- The scores after `i` rounds. -/
def scoresAt (i : ℕ) : FVec Ideal S4x157x128 .f32 :=
  (next (blkY1 x1 x3 x5 x7) (blkX1 x2 x4 x6 x8) (blkY2 x1 x3 x5 x7) (blkX2 x2 x4 x6 x8)
    (blkArea x1 x2 x3 x4 x5 x6 x7 x8))^[i] (blkScore x0)

/-- The block's row of trip `i`. -/
def rowAt (i : ℕ) : FVec Ideal S4x1x4 .f32 :=
  row (blkY1 x1 x3 x5 x7) (blkX1 x2 x4 x6 x8) (blkY2 x1 x3 x5 x7) (blkX2 x2 x4 x6 x8) (scoresAt x0 x1 x2 x3 x4 x5 x6 x7 x8 i)

/-- A whole block loaded is the block. -/
theorem load_eq (a : Memref sig .tc .vmem S4x157x128 .f32) (ha : a.IsWhole) (x : FVec Ideal S4x157x128 .f32) :
    View.readAt (Elt Ideal) a.view (Rect.unit ![0, 0, 0] S4x157x128.size inb_S4x157x128_S4x157x128_0_0_0).toLoadRect
      (ha.unread x) = x := by
  have hz : ((![0, 0, 0] : Fin 3 → Nat)) = fun _ => 0 := by
    funext a
    fin_cases a <;> rfl
  rw [View.readAt_eq_ld, ha.read_unread]
  exact View.ld_unit_zero hz _ _

/-- What the body stores: the rows. -/
theorem pieces_eq (c : Dev nD)
    (arg0 : Memref sig .tc .vmem S4x157x128 .f32) (harg0 : arg0.IsWhole)
    (arg1 : Memref sig .tc .vmem S4x157x128 .f32) (harg1 : arg1.IsWhole)
    (arg2 : Memref sig .tc .vmem S4x157x128 .f32) (harg2 : arg2.IsWhole)
    (arg3 : Memref sig .tc .vmem S4x157x128 .f32) (harg3 : arg3.IsWhole)
    (arg4 : Memref sig .tc .vmem S4x157x128 .f32) (harg4 : arg4.IsWhole)
    (arg5 : Memref sig .tc .vmem S4x157x128 .f32) (harg5 : arg5.IsWhole)
    (arg6 : Memref sig .tc .vmem S4x157x128 .f32) (harg6 : arg6.IsWhole)
    (arg7 : Memref sig .tc .vmem S4x157x128 .f32) (harg7 : arg7.IsWhole)
    (arg8 : Memref sig .tc .vmem S4x157x128 .f32) (harg8 : arg8.IsWhole)
    (arg9 : Memref sig .tc .vmem S4x1000x4 .f32) (harg9 : arg9.IsWhole) :
    (kernelRun0_A (F := Ideal) c arg0 harg0 arg1 harg1 arg2 harg2 arg3 harg3 arg4 harg4 arg5 harg5 arg6 harg6 arg7 harg7 arg8 harg8 arg9 harg9 x0 x1 x2 x3 x4 x5 x6 x7 x8).1
      = (state Variants.none c none arg0 harg0 arg1 harg1 arg2 harg2 arg3 harg3 arg4 harg4 arg5 harg5 arg6 harg6 arg7 harg7 arg8 harg8 arg9 harg9 (k0_pay24 x1) (k0_pay25 x2) (k0_pay26 x5)
        (k0_pay27 x6) (k0_pay28 x7) (k0_pay29 x8) (k0_pay30 x1 x3) (k0_pay31 x2 x4)
        (Scalar.ofBits .f32 0x3F000000#32) (k0_pay9 (k0_pay23 x0)) k0_t1_loop.trips).2 := by
  unfold kernelRun0_A
  dsimp only
  unfold kernelRun0_A.sl.r_1 kernelRun0_A.sl.r_2 kernelRun0_A.sl.r_3 kernelRun0_A.sl.r_4 kernelRun0_A.sl.r_5
    kernelRun0_A.sl.r_6 kernelRun0_A.sl.r_7 kernelRun0_A.sl.r_8 kernelRun0_A.sl.r kernelRun0_A.sl.cst_29
  rw [load_eq arg0 harg0, load_eq arg1 harg1, load_eq arg2 harg2, load_eq arg3 harg3, load_eq arg4 harg4,
    load_eq arg5 harg5, load_eq arg6 harg6, load_eq arg7 harg7, load_eq arg8 harg8]

theorem pieces_rows (c : Dev nD)
    (arg0 : Memref sig .tc .vmem S4x157x128 .f32) (harg0 : arg0.IsWhole)
    (arg1 : Memref sig .tc .vmem S4x157x128 .f32) (harg1 : arg1.IsWhole)
    (arg2 : Memref sig .tc .vmem S4x157x128 .f32) (harg2 : arg2.IsWhole)
    (arg3 : Memref sig .tc .vmem S4x157x128 .f32) (harg3 : arg3.IsWhole)
    (arg4 : Memref sig .tc .vmem S4x157x128 .f32) (harg4 : arg4.IsWhole)
    (arg5 : Memref sig .tc .vmem S4x157x128 .f32) (harg5 : arg5.IsWhole)
    (arg6 : Memref sig .tc .vmem S4x157x128 .f32) (harg6 : arg6.IsWhole)
    (arg7 : Memref sig .tc .vmem S4x157x128 .f32) (harg7 : arg7.IsWhole)
    (arg8 : Memref sig .tc .vmem S4x157x128 .f32) (harg8 : arg8.IsWhole)
    (arg9 : Memref sig .tc .vmem S4x1000x4 .f32) (harg9 : arg9.IsWhole) :
    ∀ p ∈ (kernelRun0_A (F := Ideal) c arg0 harg0 arg1 harg1 arg2 harg2 arg3 harg3 arg4 harg4 arg5 harg5 arg6 harg6 arg7 harg7 arg8 harg8 arg9 harg9 x0 x1 x2 x3 x4 x5 x6 x7 x8).1,
      ∃ j : Fin k0_t1_loop.trips, p = ⟨Rect.unit (k0_off1 j) ![4, 1, 4] (k0_off1_inb j), rowAt x0 x1 x2 x3 x4 x5 x6 x7 x8 j.val⟩ := by
  rw [pieces_eq]
  intro p hp
  obtain ⟨j, hj⟩ := state_stores Variants.none c none arg0 harg0 arg1 harg1 arg2 harg2 arg3 harg3 arg4 harg4 arg5 harg5 arg6 harg6 arg7 harg7 arg8 harg8 arg9 harg9 _ _ _ _ _ _ _ _ _ _ _ (Nat.le_refl _) p hp
  exact ⟨j, hj⟩

/-- The rows, one under the other. -/
def rowsBlock : FVec Ideal S4x1000x4 .f32 :=
  fun y => rowAt x0 x1 x2 x3 x4 x5 x6 x7 x8 (y 1).val (ix3 (y 0) 0 (y 2))

/-- Each row is the block's, where it is stored. -/
theorem store_eq (j : Fin k0_t1_loop.trips)
    (x : (Rect.unit (s := S4x1000x4) (k0_off1 j) ![4, 1, 4] (k0_off1_inb j)).shape.Idx) :
    rowAt x0 x1 x2 x3 x4 x5 x6 x7 x8 j.val x
      = rowsBlock x0 x1 x2 x3 x4 x5 x6 x7 x8 ((Rect.unit (s := S4x1000x4) (k0_off1 j) ![4, 1, 4] (k0_off1_inb j)).emb x) := by
  have o0 : k0_off1 j 0 = 0 := congrFun (off_eq j) 0
  have o1 : k0_off1 j 1 = j.val := congrFun (off_eq j) 1
  have o2 : k0_off1 j 2 = 0 := congrFun (off_eq j) 2
  have hx : (x 1).val < 1 := (x 1).isLt
  generalize hy : (Rect.unit (s := S4x1000x4) (k0_off1 j) ![4, 1, 4] (k0_off1_inb j)).emb x = y
  have y0 : (y 0).val = (x 0).val := by
    rw [← hy]
    show k0_off1 j 0 + 1 * (x 0).val = (x 0).val
    omega
  have y1 : (y 1).val = j.val := by
    rw [← hy]
    show k0_off1 j 1 + 1 * (x 1).val = j.val
    omega
  have y2 : (y 2).val = (x 2).val := by
    rw [← hy]
    show k0_off1 j 2 + 1 * (x 2).val = (x 2).val
    omega
  have hxy : (x : S4x1x4.Idx) = ix3 (y 0) 0 (y 2) := by
    funext a
    refine Fin.ext ?_
    fin_cases a
    · exact y0.symm
    · show (x 1).val = 0
      omega
    · exact y2.symm
  unfold rowsBlock
  rw [y1]
  exact congrArg (rowAt x0 x1 x2 x3 x4 x5 x6 x7 x8 j.val) hxy

theorem pieces_agree (c : Dev nD)
    (arg0 : Memref sig .tc .vmem S4x157x128 .f32) (harg0 : arg0.IsWhole)
    (arg1 : Memref sig .tc .vmem S4x157x128 .f32) (harg1 : arg1.IsWhole)
    (arg2 : Memref sig .tc .vmem S4x157x128 .f32) (harg2 : arg2.IsWhole)
    (arg3 : Memref sig .tc .vmem S4x157x128 .f32) (harg3 : arg3.IsWhole)
    (arg4 : Memref sig .tc .vmem S4x157x128 .f32) (harg4 : arg4.IsWhole)
    (arg5 : Memref sig .tc .vmem S4x157x128 .f32) (harg5 : arg5.IsWhole)
    (arg6 : Memref sig .tc .vmem S4x157x128 .f32) (harg6 : arg6.IsWhole)
    (arg7 : Memref sig .tc .vmem S4x157x128 .f32) (harg7 : arg7.IsWhole)
    (arg8 : Memref sig .tc .vmem S4x157x128 .f32) (harg8 : arg8.IsWhole)
    (arg9 : Memref sig .tc .vmem S4x1000x4 .f32) (harg9 : arg9.IsWhole) :
    ∀ p ∈ (kernelRun0_A (F := Ideal) c arg0 harg0 arg1 harg1 arg2 harg2 arg3 harg3 arg4 harg4 arg5 harg5 arg6 harg6 arg7 harg7 arg8 harg8 arg9 harg9 x0 x1 x2 x3 x4 x5 x6 x7 x8).1, ∀ x : p.1.shape.Idx,
      p.2 x = rowsBlock x0 x1 x2 x3 x4 x5 x6 x7 x8 (p.1.emb x) := by
  intro p hp
  obtain ⟨j, hj⟩ := pieces_rows x0 x1 x2 x3 x4 x5 x6 x7 x8 c arg0 harg0 arg1 harg1 arg2 harg2 arg3 harg3 arg4 harg4 arg5 harg5 arg6 harg6 arg7 harg7 arg8 harg8 arg9 harg9 p hp
  subst hj
  intro x
  have h := store_eq x0 x1 x2 x3 x4 x5 x6 x7 x8 j x
  dsimp only
  with_reducible exact h

/-- The output block. -/
theorem block_eq (c : Dev nD)
    (arg0 : Memref sig .tc .vmem S4x157x128 .f32) (harg0 : arg0.IsWhole)
    (arg1 : Memref sig .tc .vmem S4x157x128 .f32) (harg1 : arg1.IsWhole)
    (arg2 : Memref sig .tc .vmem S4x157x128 .f32) (harg2 : arg2.IsWhole)
    (arg3 : Memref sig .tc .vmem S4x157x128 .f32) (harg3 : arg3.IsWhole)
    (arg4 : Memref sig .tc .vmem S4x157x128 .f32) (harg4 : arg4.IsWhole)
    (arg5 : Memref sig .tc .vmem S4x157x128 .f32) (harg5 : arg5.IsWhole)
    (arg6 : Memref sig .tc .vmem S4x157x128 .f32) (harg6 : arg6.IsWhole)
    (arg7 : Memref sig .tc .vmem S4x157x128 .f32) (harg7 : arg7.IsWhole)
    (arg8 : Memref sig .tc .vmem S4x157x128 .f32) (harg8 : arg8.IsWhole)
    (arg9 : Memref sig .tc .vmem S4x1000x4 .f32) (harg9 : arg9.IsWhole) :
    out0_A_9 (F := Ideal) c arg0 harg0 arg1 harg1 arg2 harg2 arg3 harg3 arg4 harg4 arg5 harg5 arg6 harg6 arg7 harg7 arg8 harg8 arg9 harg9 x0 x1 x2 x3 x4 x5 x6 x7 x8 = rowsBlock x0 x1 x2 x3 x4 x5 x6 x7 x8 := by
  unfold out0_A_9
  funext y
  exact View.read_writes_apply_of_pieces _ _ (rowsBlock x0 x1 x2 x3 x4 x5 x6 x7 x8) _
    (pieces_agree x0 x1 x2 x3 x4 x5 x6 x7 x8 c arg0 harg0 arg1 harg1 arg2 harg2 arg3 harg3 arg4 harg4 arg5 harg5 arg6 harg6 arg7 harg7 arg8 harg8 arg9 harg9) y
    (cover0_A_9 (F := Ideal) c arg0 harg0 arg1 harg1 arg2 harg2 arg3 harg3 arg4 harg4 arg5 harg5 arg6 harg6 arg7 harg7 arg8 harg8 arg9 harg9 x0 x1 x2 x3 x4 x5 x6 x7 x8 y)

end

end Nms

end
-- ==== Proof.KernelArray.lean ====
/-
  What the kernel's nine input blocks hold, and its result array.

  The host takes a column of an argument, pads it from 20000 to 20096 and cuts it into 157 rows of 128. So entry `(r, l)`
  of a sample's block is the column at `128 r + l`, and the padding beyond.
-/
module

public import proofs.«01_k».proof.Proof.KernelRun
public import Idealize.ShloMosaic.Lib.StableHlo.Run
public import Idealize.ShloMosaic.Lib.StableHlo.RunRead

@[expose] public section

set_option maxRecDepth 16384

noncomputable section

namespace Nms

open Idealize.ShloMosaic Idealize.ShloMosaic.Pointwise Idealize.ShloMosaic.TcCoe Idealize.SL.Sem
open Cert.KernelIdeal Cert.KernelIdeal.Gen

/-- The block of the scores, and of one column of the anchors or of the deltas. -/
def scoreBlk (x : FVec Ideal S4x20000x2 .f32) : FVec Ideal S4x157x128 .f32 :=
  shapeCast S4x157x128 (pad S4x20096 ![0, 0] ![0, 96] ![0, 0]
    (shapeCast S4x20000 (extractStridedSlice S4x20000x1 ![0, 0, 1] x slices_S4x20000x2_S4x20000x1_0_0_1)
      shapeCasts_S4x20000x1_S4x20000) (constant S_ .f32 0xBF800000#32) pads_S4x20000_S4x20096_000_0960 h_S_)
    shapeCasts_S4x20096_S4x157x128
def colBlk (off : Fin 3 → Nat) (h : S4x20000x4.Slices off S4x20000x1) (x : FVec Ideal S4x20000x4 .f32) :
    FVec Ideal S4x157x128 .f32 :=
  shapeCast S4x157x128 (pad S4x20096 ![0, 0] ![0, 96] ![0, 0]
    (shapeCast S4x20000 (extractStridedSlice S4x20000x1 off x h) shapeCasts_S4x20000x1_S4x20000)
    (constant S_ .f32 0x00000000#32) pads_S4x20000_S4x20096_000_0960 h_S_) shapeCasts_S4x20096_S4x157x128

theorem scoreBlk_of_lt (x : FVec Ideal S4x20000x2 .f32) (b : Fin 4) (n : Cell) (h : cellPos n < 20000) :
    cells (scoreBlk x) b n = x (ix3 b ⟨cellPos n, h⟩ 1) := by
  unfold cells scoreBlk
  pointwise
  exact dif_pos h

/-- The padding of the scores is no score: it lies below the threshold. -/
theorem scoreBlk_of_ge (x : FVec Ideal S4x20000x2 .f32) (b : Fin 4) (n : Cell) (h : ¬cellPos n < 20000) :
    cells (scoreBlk x) b n = Ideal.ofBits .f32 0xBF800000#32 := by
  unfold cells scoreBlk
  pointwise
  exact dif_neg h

theorem colBlk_of_lt (x : FVec Ideal S4x20000x4 .f32) (b : Fin 4) (n : Cell) (h : cellPos n < 20000) :
    cells (colBlk ![0, 0, 0] slices_S4x20000x4_S4x20000x1_0_0_0 x) b n = x (ix3 b ⟨cellPos n, h⟩ 0) ∧
    cells (colBlk ![0, 0, 1] slices_S4x20000x4_S4x20000x1_0_0_1 x) b n = x (ix3 b ⟨cellPos n, h⟩ 1) ∧
    cells (colBlk ![0, 0, 2] slices_S4x20000x4_S4x20000x1_0_0_2 x) b n = x (ix3 b ⟨cellPos n, h⟩ 2) ∧
    cells (colBlk ![0, 0, 3] slices_S4x20000x4_S4x20000x1_0_0_3 x) b n = x (ix3 b ⟨cellPos n, h⟩ 3) := by
  unfold cells colBlk
  refine ⟨?_, ?_, ?_, ?_⟩ <;> (pointwise; exact dif_pos h)

section
variable (x0 x1 x2 x3 x4 x5 x6 x7 x8 : FVec Ideal S4x157x128 .f32) (b : Fin 4) (n : Cell)

/-- The areas are the boxes'. -/
theorem area_eq : cells (blkArea x1 x2 x3 x4 x5 x6 x7 x8) b n
    = area (boxes (blkY1 x1 x3 x5 x7) (blkX1 x2 x4 x6 x8) (blkY2 x1 x3 x5 x7) (blkX2 x2 x4 x6 x8) b n) := by
  show _ = (cells (blkY2 x1 x3 x5 x7) b n - cells (blkY1 x1 x3 x5 x7) b n)
    * (cells (blkX2 x2 x4 x6 x8) b n - cells (blkX1 x2 x4 x6 x8) b n)
  unfold cells blkArea blkY1 blkX1 blkY2 blkX2
  pointwise [k0_pay7]

/-- The boxes are decoded from the anchors and the deltas. -/
theorem boxes_eq : boxes (blkY1 x1 x3 x5 x7) (blkX1 x2 x4 x6 x8) (blkY2 x1 x3 x5 x7) (blkX2 x2 x4 x6 x8) b n
    = decode ![cells x1 b n, cells x2 b n, cells x3 b n, cells x4 b n]
      ![cells x5 b n, cells x6 b n, cells x7 b n, cells x8 b n] := by
  have e1 : cells (blkY1 x1 x3 x5 x7) b n = lower (cells x1 b n) (cells x3 b n) (cells x5 b n) (cells x7 b n) := by
    unfold cells blkY1
    pointwise [k0_pay3, k0_pay1, k0_pay24, k0_pay26, k0_pay28, k0_pay30]
    rfl
  have e2 : cells (blkX1 x2 x4 x6 x8) b n = lower (cells x2 b n) (cells x4 b n) (cells x6 b n) (cells x8 b n) := by
    unfold cells blkX1
    pointwise [k0_pay4, k0_pay2, k0_pay25, k0_pay27, k0_pay29, k0_pay31]
    rfl
  have e3 : cells (blkY2 x1 x3 x5 x7) b n = upper (cells x1 b n) (cells x3 b n) (cells x5 b n) (cells x7 b n) := by
    unfold cells blkY2
    pointwise [k0_pay5, k0_pay3, k0_pay1, k0_pay24, k0_pay26, k0_pay28, k0_pay30]
    rfl
  have e4 : cells (blkX2 x2 x4 x6 x8) b n = upper (cells x2 b n) (cells x4 b n) (cells x6 b n) (cells x8 b n) := by
    unfold cells blkX2
    pointwise [k0_pay6, k0_pay4, k0_pay2, k0_pay25, k0_pay27, k0_pay29, k0_pay31]
    rfl
  unfold boxes
  rw [e1, e2, e3, e4]
  rfl

/-- The first scores: dead where not above the threshold. -/
theorem score_eq : cells (blkScore x0) b n = if floor < cells x0 b n then cells x0 b n else dead := by
  unfold cells blkScore
  pointwise [k0_pay9, k0_pay23]
  rfl

end

section
variable (m : (ℓ : Loc nD τ sig) → Buf (Elt Ideal) ℓ) (ρ : Dev nD → PrngReg) (c : Dev nD)

/-- The arguments' contents: scores, deltas, anchors. -/
def probs : FVec Ideal S4x20000x2 .f32 := m ((c : Thread nD τ).loc main_arg0)
def deltas : FVec Ideal S4x20000x4 .f32 := m ((c : Thread nD τ).loc main_arg1)
def anchors : FVec Ideal S4x20000x4 .f32 := m ((c : Thread nD τ).loc main_arg2)

theorem V_scores : V m c main_v3 = scoreBlk (probs m c) := by
  unfold V
  simp only [List.flatten_cons, List.flatten_nil, List.append_nil, List.cons_append, List.nil_append]
  after_reads_simp
  rfl

theorem V_anchors0 : V m c main_v7 = colBlk ![0, 0, 0] slices_S4x20000x4_S4x20000x1_0_0_0 (anchors m c) := by
  unfold V
  simp only [List.flatten_cons, List.flatten_nil, List.append_nil, List.cons_append, List.nil_append]
  after_reads_simp
  rfl

theorem V_anchors1 : V m c main_v11 = colBlk ![0, 0, 1] slices_S4x20000x4_S4x20000x1_0_0_1 (anchors m c) := by
  unfold V
  simp only [List.flatten_cons, List.flatten_nil, List.append_nil, List.cons_append, List.nil_append]
  after_reads_simp
  rfl

theorem V_anchors2 : V m c main_v15 = colBlk ![0, 0, 2] slices_S4x20000x4_S4x20000x1_0_0_2 (anchors m c) := by
  unfold V
  simp only [List.flatten_cons, List.flatten_nil, List.append_nil, List.cons_append, List.nil_append]
  after_reads_simp
  rfl

theorem V_anchors3 : V m c main_v19 = colBlk ![0, 0, 3] slices_S4x20000x4_S4x20000x1_0_0_3 (anchors m c) := by
  unfold V
  simp only [List.flatten_cons, List.flatten_nil, List.append_nil, List.cons_append, List.nil_append]
  after_reads_simp
  rfl

theorem V_deltas0 : V m c main_v23 = colBlk ![0, 0, 0] slices_S4x20000x4_S4x20000x1_0_0_0 (deltas m c) := by
  unfold V
  simp only [List.flatten_cons, List.flatten_nil, List.append_nil, List.cons_append, List.nil_append]
  after_reads_simp
  rfl

theorem V_deltas1 : V m c main_v27 = colBlk ![0, 0, 1] slices_S4x20000x4_S4x20000x1_0_0_1 (deltas m c) := by
  unfold V
  simp only [List.flatten_cons, List.flatten_nil, List.append_nil, List.cons_append, List.nil_append]
  after_reads_simp
  rfl

theorem V_deltas2 : V m c main_v31 = colBlk ![0, 0, 2] slices_S4x20000x4_S4x20000x1_0_0_2 (deltas m c) := by
  unfold V
  simp only [List.flatten_cons, List.flatten_nil, List.append_nil, List.cons_append, List.nil_append]
  after_reads_simp
  rfl

theorem V_deltas3 : V m c main_v35 = colBlk ![0, 0, 3] slices_S4x20000x4_S4x20000x1_0_0_3 (deltas m c) := by
  unfold V
  simp only [List.flatten_cons, List.flatten_nil, List.append_nil, List.cons_append, List.nil_append]
  after_reads_simp
  rfl

theorem blk0 (t : Fin cfg0.N) : iblk m c 0 t = scoreBlk (probs m c) := by
  have hz : (fun a => win0_0.index t a * main_v3.ty.shape.size a) = fun _ => 0 := by
    funext a
    fin_cases a <;> (revert t; decide +kernel)
  exact (Memref.read_access_unit_zero (Elt Ideal) main_v3 hz (fun a => by rw [congrFun hz a]; simp)
    (V m c main_v3)).trans (V_scores m c)

theorem blk1 (t : Fin cfg0.N) : iblk m c 1 t = colBlk ![0, 0, 0] slices_S4x20000x4_S4x20000x1_0_0_0 (anchors m c) := by
  have hz : (fun a => win0_1.index t a * main_v7.ty.shape.size a) = fun _ => 0 := by
    funext a
    fin_cases a <;> (revert t; decide +kernel)
  exact (Memref.read_access_unit_zero (Elt Ideal) main_v7 hz (fun a => by rw [congrFun hz a]; simp)
    (V m c main_v7)).trans (V_anchors0 m c)

theorem blk2 (t : Fin cfg0.N) : iblk m c 2 t = colBlk ![0, 0, 1] slices_S4x20000x4_S4x20000x1_0_0_1 (anchors m c) := by
  have hz : (fun a => win0_2.index t a * main_v11.ty.shape.size a) = fun _ => 0 := by
    funext a
    fin_cases a <;> (revert t; decide +kernel)
  exact (Memref.read_access_unit_zero (Elt Ideal) main_v11 hz (fun a => by rw [congrFun hz a]; simp)
    (V m c main_v11)).trans (V_anchors1 m c)

theorem blk3 (t : Fin cfg0.N) : iblk m c 3 t = colBlk ![0, 0, 2] slices_S4x20000x4_S4x20000x1_0_0_2 (anchors m c) := by
  have hz : (fun a => win0_3.index t a * main_v15.ty.shape.size a) = fun _ => 0 := by
    funext a
    fin_cases a <;> (revert t; decide +kernel)
  exact (Memref.read_access_unit_zero (Elt Ideal) main_v15 hz (fun a => by rw [congrFun hz a]; simp)
    (V m c main_v15)).trans (V_anchors2 m c)

theorem blk4 (t : Fin cfg0.N) : iblk m c 4 t = colBlk ![0, 0, 3] slices_S4x20000x4_S4x20000x1_0_0_3 (anchors m c) := by
  have hz : (fun a => win0_4.index t a * main_v19.ty.shape.size a) = fun _ => 0 := by
    funext a
    fin_cases a <;> (revert t; decide +kernel)
  exact (Memref.read_access_unit_zero (Elt Ideal) main_v19 hz (fun a => by rw [congrFun hz a]; simp)
    (V m c main_v19)).trans (V_anchors3 m c)

theorem blk5 (t : Fin cfg0.N) : iblk m c 5 t = colBlk ![0, 0, 0] slices_S4x20000x4_S4x20000x1_0_0_0 (deltas m c) := by
  have hz : (fun a => win0_5.index t a * main_v23.ty.shape.size a) = fun _ => 0 := by
    funext a
    fin_cases a <;> (revert t; decide +kernel)
  exact (Memref.read_access_unit_zero (Elt Ideal) main_v23 hz (fun a => by rw [congrFun hz a]; simp)
    (V m c main_v23)).trans (V_deltas0 m c)

theorem blk6 (t : Fin cfg0.N) : iblk m c 6 t = colBlk ![0, 0, 1] slices_S4x20000x4_S4x20000x1_0_0_1 (deltas m c) := by
  have hz : (fun a => win0_6.index t a * main_v27.ty.shape.size a) = fun _ => 0 := by
    funext a
    fin_cases a <;> (revert t; decide +kernel)
  exact (Memref.read_access_unit_zero (Elt Ideal) main_v27 hz (fun a => by rw [congrFun hz a]; simp)
    (V m c main_v27)).trans (V_deltas1 m c)

theorem blk7 (t : Fin cfg0.N) : iblk m c 7 t = colBlk ![0, 0, 2] slices_S4x20000x4_S4x20000x1_0_0_2 (deltas m c) := by
  have hz : (fun a => win0_7.index t a * main_v31.ty.shape.size a) = fun _ => 0 := by
    funext a
    fin_cases a <;> (revert t; decide +kernel)
  exact (Memref.read_access_unit_zero (Elt Ideal) main_v31 hz (fun a => by rw [congrFun hz a]; simp)
    (V m c main_v31)).trans (V_deltas2 m c)

theorem blk8 (t : Fin cfg0.N) : iblk m c 8 t = colBlk ![0, 0, 3] slices_S4x20000x4_S4x20000x1_0_0_3 (deltas m c) := by
  have hz : (fun a => win0_8.index t a * main_v35.ty.shape.size a) = fun _ => 0 := by
    funext a
    fin_cases a <;> (revert t; decide +kernel)
  exact (Memref.read_access_unit_zero (Elt Ideal) main_v35 hz (fun a => by rw [congrFun hz a]; simp)
    (V m c main_v35)).trans (V_deltas3 m c)

/-- The result. -/
def result : FVec Ideal S4x1000x4 .f32 :=
  rowsBlock (scoreBlk (probs m c)) (colBlk ![0, 0, 0] slices_S4x20000x4_S4x20000x1_0_0_0 (anchors m c)) (colBlk ![0, 0, 1] slices_S4x20000x4_S4x20000x1_0_0_1 (anchors m c)) (colBlk ![0, 0, 2] slices_S4x20000x4_S4x20000x1_0_0_2 (anchors m c)) (colBlk ![0, 0, 3] slices_S4x20000x4_S4x20000x1_0_0_3 (anchors m c)) (colBlk ![0, 0, 0] slices_S4x20000x4_S4x20000x1_0_0_0 (deltas m c)) (colBlk ![0, 0, 1] slices_S4x20000x4_S4x20000x1_0_0_1 (deltas m c)) (colBlk ![0, 0, 2] slices_S4x20000x4_S4x20000x1_0_0_2 (deltas m c)) (colBlk ![0, 0, 3] slices_S4x20000x4_S4x20000x1_0_0_3 (deltas m c))

theorem flushed_eq (t : Fin cfg0.N) (hf : (cfg0.win 9).flush t = true) :
    (dats m 0 c).flushed 9 t = ((cfg0.win 9).blk t).view.read (Elt Ideal) (result m c : Buf (Elt Ideal) ((c : Thread nD τ).loc main_v36)) := by
  rw [Value.flushed9_A, block_eq]
  rw [blk0, blk1, blk2, blk3, blk4, blk5, blk6, blk7, blk8]
  have hz : (fun a => win0_9.index t a * main_v36.ty.shape.size a) = fun _ => 0 := by
    funext a
    fin_cases a <;> (revert t; decide +kernel)
  exact (Memref.read_access_unit_zero (Elt Ideal) main_v36 hz (fun a => by rw [congrFun hz a]; simp)
    (result m c : Buf (Elt Ideal) ((c : Thread nD τ).loc main_v36))).symm

/-- The result array after the run. -/
theorem array_eq : (dats m 0 c).arrAt 9 cfg0.N = (result m c : Buf (Elt Ideal) ((c : Thread nD τ).loc main_v36)) :=
  (dats m 0 c).arrAt_eq_of_cover 9 _ (flushed_eq m c) fun (i : S4x1000x4.Idx) =>
    ⟨t0_0, flush0_9 t0_0, by
      show i ∈ ((View.whole main_v36).slice (win0_9.rect t0_0)).set
      rw [View.set_slice_whole, Rect.mem_set_unit]
      intro a
      have h0 : (i 0 : Nat) < 4 := (i 0).isLt
      have h1 : (i 1 : Nat) < 1000 := (i 1).isLt
      have h2 : (i 2 : Nat) < 4 := (i 2).isLt
      have o0 : win0_9.index t0_0 0 * win0_9.size 0 = 0 := by decide +kernel
      have o1 : win0_9.index t0_0 1 * win0_9.size 1 = 0 := by decide +kernel
      have o2 : win0_9.index t0_0 2 * win0_9.size 2 = 0 := by decide +kernel
      have s0 : win0_9.xsize (grid0.coords t0_0) 0 = 4 := by decide +kernel
      have s1 : win0_9.xsize (grid0.coords t0_0) 1 = 1000 := by decide +kernel
      have s2 : win0_9.xsize (grid0.coords t0_0) 2 = 4 := by decide +kernel
      fin_cases a
      · show win0_9.index t0_0 0 * win0_9.size 0 ≤ (i 0 : Nat)
          ∧ (i 0 : Nat) < win0_9.index t0_0 0 * win0_9.size 0 + win0_9.xsize (grid0.coords t0_0) 0
        rw [o0, s0]
        omega
      · show win0_9.index t0_0 1 * win0_9.size 1 ≤ (i 1 : Nat)
          ∧ (i 1 : Nat) < win0_9.index t0_0 1 * win0_9.size 1 + win0_9.xsize (grid0.coords t0_0) 1
        rw [o1, s1]
        omega
      · show win0_9.index t0_0 2 * win0_9.size 2 ≤ (i 2 : Nat)
          ∧ (i 2 : Nat) < win0_9.index t0_0 2 * win0_9.size 2 + win0_9.xsize (grid0.coords t0_0) 2
        rw [o2, s2]
        omega⟩

end

end Nms

end
-- ==== Proof.Ranking.lean ====
/-
  What a top-k leaves: the greatest entries of each row in the order "greater first, and of equals the earlier one".

  The operation is defined by a stable sort. A stable sort by "greater" alone is the sort by "greater, or equal and
  earlier" (`sortedFrom_ties`), a strict total order; so the ranked entries stand in that order (`rank_ordered`), and an
  entry that is not among the ranked ones comes after all of them (`rank_rest`). `topK_value`, `topK_index` read the two
  results of a top-k at an index.
-/
module

public import Idealize.ShloMosaic.Lib.SortFacts
public import Idealize.ShloMosaic.Lib.SortPrefix
public import Idealize.ShloMosaic.Lib.Pointwise
public import proofs.«01_k».proof.Proof.Greedy

@[expose] public section

noncomputable section

namespace Nms

open Idealize.ShloMosaic Idealize.ShloMosaic.Pointwise

/-- "Greater", and "greater, or equal and earlier". -/
def greater {n : ℕ} (x : Fin n → EReal) (k k' : Fin n) : Bool := decide (x k' < x k)
def before {n : ℕ} (x : Fin n → EReal) (k k' : Fin n) : Bool :=
  decide (x k' < x k) || (decide (x k = x k') && decide (k < k'))

theorem before_total {n : ℕ} (x : Fin n → EReal) : StrictTotalBefore (before x) :=
  StrictTotalBefore.of_key_then_position (fun a b : EReal => decide (b < a)) x (by simp)
    (fun a b c h1 h2 => by simp only [decide_eq_true_eq] at *; exact h2.trans h1)
    (fun a b => by
      simp only [decide_eq_true_eq]
      rcases lt_trichotomy a b with h | h | h
      · exact Or.inr (Or.inr h)
      · exact Or.inr (Or.inl h)
      · exact Or.inl h)

/-- A stable sort of positions in rising order breaks ties by position of itself. -/
theorem stableSort_ties {n : ℕ} (x : Fin n → EReal) (l : List (Fin n)) (hl : l.Pairwise (· < ·)) :
    stableSort (greater x) l = stableSort (before x) l := by
  induction l with
  | nil => rfl
  | cons a l ih =>
    rw [List.pairwise_cons] at hl
    unfold stableSort
    rw [ih hl.2]
    refine insertBefore_congr _ _ _ _ fun b hb => ?_
    have hab : a < b := hl.1 b ((perm_stableSort (before x) l).mem_iff.mp hb)
    simp [greater, before, hab.le]

theorem sortedFrom_ties {n : ℕ} (x : Fin n → EReal) : sortedFrom (greater x) = sortedFrom (before x) := by
  funext k
  unfold sortedFrom
  rw [List.get_of_eq (show sortPositions n (greater x) = sortPositions n (before x) from
    stableSort_ties x _ (List.pairwise_lt_finRange n))]
  rfl

/-- The position of the entry ranked `k`-th. -/
def rank {n : ℕ} (x : Fin n → EReal) : Fin n → Fin n := sortedFrom (greater x)

theorem rank_injective {n : ℕ} (x : Fin n → EReal) : Function.Injective (rank x) := sortedFrom_injective _

theorem rank_surjective {n : ℕ} (x : Fin n → EReal) : Function.Surjective (rank x) := sortedFrom_surjective _

/-- The ranked entries stand in the order "greater first, of equals the earlier one". -/
theorem rank_ordered {n : ℕ} (x : Fin n → EReal) (i j : Fin n) (h : i < j) :
    x (rank x j) < x (rank x i) ∨ (x (rank x j) = x (rank x i) ∧ rank x i < rank x j) := by
  have hB := before_total x
  have h0 := sortedFrom_noInversion (before x) (before x) (fun a b => hB.asymm a b) (fun _ _ h => h) hB.negTrans i j h
  rw [← sortedFrom_ties] at h0
  have h1 := (hB.total (rank x i) (rank x j) (fun e => h.ne (rank_injective x e))).resolve_right
    (by unfold rank; rw [h0]; decide)
  simp only [before, Bool.or_eq_true, Bool.and_eq_true, decide_eq_true_eq] at h1
  exact h1.imp_right fun h2 => ⟨h2.1.symm, h2.2⟩

/-- An entry that is not among the first `K` ranked ones comes after each of these. -/
theorem rank_rest {n K : ℕ} (hK : K ≤ n) (x : Fin n → EReal) (m : Fin n) (hm : ∀ p : Fin K, rank x (p.castLE hK) ≠ m)
    (p : Fin K) : x m < x (rank x (p.castLE hK)) ∨ (x m = x (rank x (p.castLE hK)) ∧ rank x (p.castLE hK) < m) := by
  obtain ⟨j, rfl⟩ := rank_surjective x m
  refine rank_ordered x _ _ ?_
  by_contra hj
  have hlt : j.val < K := lt_of_le_of_lt (show j.val ≤ p.val from not_lt.mp hj) p.isLt
  exact hm ⟨j.val, hlt⟩ rfl

/-- The comparison a top-k of extended reals sorts by is "greater". -/
theorem gt_eq (a b : EReal) : (FloatOps.cmpfTotal (F := Ideal) (φ := .f32) .gt a b == 1#1) = decide (b < a) := by
  rw [show FloatOps.cmpfTotal (F := Ideal) (φ := .f32) .gt a b = BitVec.ofBool (decide (b < a)) from rfl]
  by_cases h : b < a <;> simp [h]

section
variable {B n K : ℕ} (hK : K ≤ n) (x : FVec Ideal (⟨2, ![B, n]⟩ : Shape) .f32)
  (h : (⟨2, ![B, n]⟩ : Shape).Slices (fun _ => 0) (⟨2, ![B, K]⟩ : Shape)) (b : Fin B) (p : Fin K)

/-- The index that replaces the second coordinate. -/
theorem along_ix2 (q : (⟨2, ![B, n]⟩ : Shape).Idx) (hq : (q 0).val = b.val) (k : Fin n) :
    Shape.Idx.along (s := (⟨2, ![B, n]⟩ : Shape)) q ⟨1, Nat.one_lt_two⟩ k = ix2 b k := by
  funext a
  match a with
  | ⟨0, _⟩ => exact Fin.ext hq
  | ⟨1, _⟩ => rfl

/-- Where the sort takes the entry ranked `j`-th in row `b` from. -/
theorem sort_source {β : Type} (y : (⟨2, ![B, n]⟩ : Shape).Idx → β) (q : (⟨2, ![B, n]⟩ : Shape).Idx)
    (hq : (q 0).val = b.val) (j : Fin n) (hj : (q 1).val = j.val) :
    Shape.Idx.along (s := (⟨2, ![B, n]⟩ : Shape)) q ⟨1, Nat.one_lt_two⟩
      (sortedFrom (fun k k' => (fun l r : EReal × β => FloatOps.cmpfTotal (F := Ideal) (φ := .f32) .gt l.1 r.1)
        (x (Shape.Idx.along q ⟨1, Nat.one_lt_two⟩ k), y (Shape.Idx.along q ⟨1, Nat.one_lt_two⟩ k))
        (x (Shape.Idx.along q ⟨1, Nat.one_lt_two⟩ k'), y (Shape.Idx.along q ⟨1, Nat.one_lt_two⟩ k')) == 1#1)
        (q ⟨1, Nat.one_lt_two⟩))
      = ix2 b (rank (fun k => x (ix2 b k)) j) := by
  have e : (fun k k' => (fun l r : EReal × β => FloatOps.cmpfTotal (F := Ideal) (φ := .f32) .gt l.1 r.1)
        (x (Shape.Idx.along q ⟨1, Nat.one_lt_two⟩ k), y (Shape.Idx.along q ⟨1, Nat.one_lt_two⟩ k))
        (x (Shape.Idx.along q ⟨1, Nat.one_lt_two⟩ k'), y (Shape.Idx.along q ⟨1, Nat.one_lt_two⟩ k')) == 1#1)
      = greater (n := n) (fun k => x (ix2 b k)) := by
    funext k k'
    refine (gt_eq _ _).trans ?_
    unfold greater
    rw [along_ix2 b q hq k, along_ix2 b q hq k']
  have hj' : q ⟨1, Nat.one_lt_two⟩ = j := Fin.ext hj
  refine (along_ix2 b q hq _).trans (congrArg (ix2 b) ?_)
  unfold rank
  rw [← hj']
  exact congrArg (fun R => sortedFrom R (q ⟨1, Nat.one_lt_two⟩)) e

/-- The value ranked `p`-th in row `b`. -/
theorem topK_value : (Host.topK (⟨2, ![B, K]⟩ : Shape) 1 (FloatOps.cmpfTotal (F := Ideal) (φ := .f32) .gt) x h).1 (ix2 b p)
    = x (ix2 b (rank (fun k => x (ix2 b k)) (p.castLE hK))) :=
  congrArg x (sort_source x b (fun i => iotaInDim (⟨2, ![B, n]⟩ : Shape) 32 1 i)
    (fun a => ⟨0 + ((ix2 b p : (⟨2, ![B, K]⟩ : Shape).Idx) (a.cast h.1.symm)).val,
      Nat.lt_of_lt_of_le (Nat.add_lt_add_left (Fin.isLt _) _) (h.2 a)⟩) (Nat.zero_add _) (p.castLE hK) (Nat.zero_add _))

/-- The index of the value ranked `p`-th in row `b`. -/
theorem topK_index : (Host.topK (⟨2, ![B, K]⟩ : Shape) 1 (FloatOps.cmpfTotal (F := Ideal) (φ := .f32) .gt) x h).2 (ix2 b p)
    = BitVec.ofNat 32 (rank (fun k => x (ix2 b k)) (p.castLE hK)).val :=
  congrArg (fun i : (⟨2, ![B, n]⟩ : Shape).Idx => BitVec.ofNat 32 (i 1).val)
    (sort_source x b (fun i => iotaInDim (⟨2, ![B, n]⟩ : Shape) 32 1 i)
    (fun a => ⟨0 + ((ix2 b p : (⟨2, ![B, K]⟩ : Shape).Idx) (a.cast h.1.symm)).val,
      Nat.lt_of_lt_of_le (Nat.add_lt_add_left (Fin.isLt _) _) (h.2 a)⟩) (Nat.zero_add _) (p.castLE hK) (Nat.zero_add _))

end

end Nms

end
-- ==== Proof.Gather.lean ====
/-
  Two gathers of rows, one sample at a time, read at an index.

  `boxes[b, idx[b, p], :]` for many positions `p`, and `boxes[b, idx[b], :]` for one: where the index word is that of a
  row's number, the result is that row.
-/
module

public import Idealize.ShloMosaic.Lib.Pointwise
public import Idealize.ShloMosaic.Lib.ValueIdx

@[expose] public section

noncomputable section

namespace Nms

open Idealize.ShloMosaic Idealize.ShloMosaic.Pointwise

section
variable {α : Type} {B N K C : ℕ}

/-- The dimension numbers of the gather of many rows per sample. -/
abbrev manyDims (wf : GatherDims.WF ⟨3, ![B, N, C]⟩ ⟨3, ![B, K, 1]⟩ ⟨3, ![B, K, C]⟩ [2] [1] [0] [1] [0] 2 ![1, 1, C]) :
    GatherDims ⟨3, ![B, N, C]⟩ ⟨3, ![B, K, 1]⟩ ⟨3, ![B, K, C]⟩ where
  offsetDims := [2]
  collapsedSliceDims := [1]
  operandBatchingDims := [0]
  startIndicesBatchingDims := [0]
  startIndexMap := [1]
  indexVectorDim := 2
  sliceSizes := ![1, 1, C]
  wf := wf

/-- The dimension numbers of the gather of one row per sample. -/
abbrev oneDims (wf : GatherDims.WF ⟨3, ![B, N, C]⟩ ⟨2, ![B, 1]⟩ ⟨2, ![B, C]⟩ [1] [1] [0] [1] [0] 1 ![1, 1, C]) :
    GatherDims ⟨3, ![B, N, C]⟩ ⟨2, ![B, 1]⟩ ⟨2, ![B, C]⟩ where
  offsetDims := [1]
  collapsedSliceDims := [1]
  operandBatchingDims := [0]
  startIndicesBatchingDims := [0]
  startIndexMap := [1]
  indexVectorDim := 1
  sliceSizes := ![1, 1, C]
  wf := wf

/-- The word of a number in range, read signed and clamped. -/
theorem clamp_word {n N : ℕ} (hn : n < N) (hN : N ≤ 2 ^ 31) :
    min (BitVec.ofNat 32 n).toInt.toNat (N - 1) = n := by
  have e : (BitVec.ofNat 32 n).toInt = n := by
    rw [BitVec.toInt_ofNat']
    exact Int.bmod_eq_of_le (by omega) (by omega)
  rw [e]
  omega

theorem gather_many (wf : GatherDims.WF ⟨3, ![B, N, C]⟩ ⟨3, ![B, K, 1]⟩ ⟨3, ![B, K, C]⟩ [2] [1] [0] [1] [0] 2 ![1, 1, C])
    (hN : N ≤ 2 ^ 31) (x : (⟨3, ![B, N, C]⟩ : Shape).Idx → α) (idx : IVec ⟨3, ![B, K, 1]⟩ 32) (b : Fin B) (p : Fin K)
    (k : Fin C) (n : Fin N) (h : idx (ix3 b p 0) = BitVec.ofNat 32 n.val) :
    Host.gather (manyDims wf) x idx (ix3 b p k) = x (ix3 b n k) := by
  unfold Host.gather
  refine congrArg x ?_
  funext a
  refine Fin.ext ?_
  show (manyDims wf).start (ix3 b p k) idx a + (manyDims wf).batchCoord (ix3 b p k) a
      + (manyDims wf).offCoord (ix3 b p k) a = _
  match a with
  | ⟨0, _⟩ =>
    have e0 : (manyDims wf).start (ix3 b p k) idx 0 = 0 := GatherDims.start_batching _ _ _ _ (List.mem_singleton.mpr rfl)
    have e1 : (manyDims wf).batchCoord (ix3 b p k) 0 = b.val := rfl
    have e2 : (manyDims wf).offCoord (ix3 b p k) 0 = 0 := rfl
    show (manyDims wf).start (ix3 b p k) idx 0 + (manyDims wf).batchCoord (ix3 b p k) 0
      + (manyDims wf).offCoord (ix3 b p k) 0 = b.val
    rw [e0, e1, e2]; omega
  | ⟨1, _⟩ =>
    have e0 : (manyDims wf).start (ix3 b p k) idx 1 = min (idx (ix3 b p 0)).toInt.toNat (N - 1) := by
      have hsi : (manyDims wf).siIdx (ix3 b p k) ⟨List.idxOf (1 : Fin 3) (manyDims wf).startIndexMap,
          List.idxOf_lt_length_iff.2 (List.mem_singleton.mpr rfl)⟩ = ix3 b p 0 := by
        funext c
        match c with
        | ⟨0, _⟩ => rfl
        | ⟨1, _⟩ => rfl
        | ⟨2, _⟩ => rfl
      unfold GatherDims.start
      rw [dif_pos (show (1 : Fin 3) ∈ (manyDims wf).startIndexMap from List.mem_singleton.mpr rfl), hsi]
      rfl
    have e1 : (manyDims wf).batchCoord (ix3 b p k) 1 = 0 := rfl
    have e2 : (manyDims wf).offCoord (ix3 b p k) 1 = 0 := rfl
    show (manyDims wf).start (ix3 b p k) idx 1 + (manyDims wf).batchCoord (ix3 b p k) 1
      + (manyDims wf).offCoord (ix3 b p k) 1 = n.val
    rw [e0, e1, e2, h, clamp_word n.isLt hN]; omega
  | ⟨2, _⟩ =>
    have e0 : (manyDims wf).start (ix3 b p k) idx 2 = 0 := rfl
    have e1 : (manyDims wf).batchCoord (ix3 b p k) 2 = 0 := rfl
    have e2 : (manyDims wf).offCoord (ix3 b p k) 2 = k.val := rfl
    show (manyDims wf).start (ix3 b p k) idx 2 + (manyDims wf).batchCoord (ix3 b p k) 2
      + (manyDims wf).offCoord (ix3 b p k) 2 = k.val
    rw [e0, e1, e2]; omega

theorem gather_one (wf : GatherDims.WF ⟨3, ![B, N, C]⟩ ⟨2, ![B, 1]⟩ ⟨2, ![B, C]⟩ [1] [1] [0] [1] [0] 1 ![1, 1, C])
    (hN : N ≤ 2 ^ 31) (x : (⟨3, ![B, N, C]⟩ : Shape).Idx → α) (idx : IVec ⟨2, ![B, 1]⟩ 32) (b : Fin B)
    (k : Fin C) (n : Fin N) (h : idx (ix2 b 0) = BitVec.ofNat 32 n.val) :
    Host.gather (oneDims wf) x idx (ix2 b k) = x (ix3 b n k) := by
  unfold Host.gather
  refine congrArg x ?_
  funext a
  refine Fin.ext ?_
  show (oneDims wf).start (ix2 b k) idx a + (oneDims wf).batchCoord (ix2 b k) a
      + (oneDims wf).offCoord (ix2 b k) a = _
  match a with
  | ⟨0, _⟩ =>
    have e0 : (oneDims wf).start (ix2 b k) idx 0 = 0 := GatherDims.start_batching _ _ _ _ (List.mem_singleton.mpr rfl)
    have e1 : (oneDims wf).batchCoord (ix2 b k) 0 = b.val := rfl
    have e2 : (oneDims wf).offCoord (ix2 b k) 0 = 0 := rfl
    show (oneDims wf).start (ix2 b k) idx 0 + (oneDims wf).batchCoord (ix2 b k) 0
      + (oneDims wf).offCoord (ix2 b k) 0 = b.val
    rw [e0, e1, e2]; omega
  | ⟨1, _⟩ =>
    have e0 : (oneDims wf).start (ix2 b k) idx 1 = min (idx (ix2 b 0)).toInt.toNat (N - 1) := by
      have hsi : (oneDims wf).siIdx (ix2 b k) ⟨List.idxOf (1 : Fin 3) (oneDims wf).startIndexMap,
          List.idxOf_lt_length_iff.2 (List.mem_singleton.mpr rfl)⟩ = ix2 b 0 := by
        funext c
        match c with
        | ⟨0, _⟩ => rfl
        | ⟨1, _⟩ => rfl
      unfold GatherDims.start
      rw [dif_pos (show (1 : Fin 3) ∈ (oneDims wf).startIndexMap from List.mem_singleton.mpr rfl), hsi]
      rfl
    have e1 : (oneDims wf).batchCoord (ix2 b k) 1 = 0 := rfl
    have e2 : (oneDims wf).offCoord (ix2 b k) 1 = 0 := rfl
    show (oneDims wf).start (ix2 b k) idx 1 + (oneDims wf).batchCoord (ix2 b k) 1
      + (oneDims wf).offCoord (ix2 b k) 1 = n.val
    rw [e0, e1, e2, h, clamp_word n.isLt hN]; omega
  | ⟨2, _⟩ =>
    have e0 : (oneDims wf).start (ix2 b k) idx 2 = 0 := rfl
    have e1 : (oneDims wf).batchCoord (ix2 b k) 2 = 0 := rfl
    have e2 : (oneDims wf).offCoord (ix2 b k) 2 = k.val := rfl
    show (oneDims wf).start (ix2 b k) idx 2 + (oneDims wf).batchCoord (ix2 b k) 2
      + (oneDims wf).offCoord (ix2 b k) 2 = k.val
    rw [e0, e1, e2]; omega

end

end Nms

end
-- ==== Proof.RefEntry.lean ====
/-
  What the reference's loop starts from.

  The reference decodes all boxes, ranks the scores and keeps the 6000 best: their scores (`entry_scores`), their boxes
  (`entry_boxes`); the result rows start at zero and the trip counter at 0.
-/
module

public import proofs.«01_k».proof.Proof.Gen.ReferenceIdeal.Run
public import proofs.«01_k».proof.Proof.Boxes
public import proofs.«01_k».proof.Proof.Ranking
public import proofs.«01_k».proof.Proof.Gather
public import Idealize.ShloMosaic.Lib.StableHlo.Run
public import Idealize.ShloMosaic.Lib.StableHlo.RunRead

@[expose] public section

set_option maxRecDepth 16384

noncomputable section

namespace Nms

open Idealize.ShloMosaic Idealize.ShloMosaic.Pointwise Idealize.ShloMosaic.TcCoe Idealize.SL.Sem
open Cert.ReferenceIdeal Cert.ReferenceIdeal.Gen Cert.ReferenceIdeal.Value Idealize.ShloMosaic.StableHlo

/-- A sample's scores, and the box at one of its locations. -/
def scoreRow (x : FVec Ideal S4x20000x2 .f32) (b : Fin 4) (n : Fin 20000) : EReal := x (ix3 b n 1)
def boxAt (d a : FVec Ideal S4x20000x4 .f32) (b : Fin 4) (n : Fin 20000) : Fin 4 → EReal :=
  decode (fun k => a (ix3 b n k)) (fun k => d (ix3 b n k))

/-- The location ranked `p`-th of the 6000 best. -/
def best (x : FVec Ideal S4x20000x2 .f32) (b : Fin 4) (p : Fin 6000) : Fin 20000 :=
  rank (scoreRow x b) (p.castLE (by decide))

/-- The scores as a matrix. -/
def scoreMat (x : FVec Ideal S4x20000x2 .f32) : FVec Ideal S4x20000 .f32 :=
  shapeCast S4x20000 (extractStridedSlice S4x20000x1 ![0, 0, 1] x slices_S4x20000x2_S4x20000x1_0_0_1)
    shapeCasts_S4x20000x1_S4x20000

/-- A column of an array of four columns. -/
def colMat (off : Fin 3 → Nat) (h : S4x20000x4.Slices off S4x20000x1) (x : FVec Ideal S4x20000x4 .f32) :
    FVec Ideal S4x20000 .f32 :=
  shapeCast S4x20000 (extractStridedSlice S4x20000x1 off x h) shapeCasts_S4x20000x1_S4x20000

/-- The deltas, scaled. -/
def scaled (d : FVec Ideal S4x20000x4 .f32) : FVec Ideal S4x20000x4 .f32 :=
  mulf d (broadcastInDim S4x20000x4 ![0, 1, 2] bcast_S1x1x4_S4x20000x4_0_1_2
    (shapeCast S1x1x4 (fun i => FloatOps.ofBits (F := Ideal) .f32 (lit0 (S4.rowMajor i)) : FVec Ideal S4 .f32) shapeCasts_S4_S1x1x4))

/-- One half, everywhere. -/
def halves : FVec Ideal S4x20000 .f32 := broadcastInDim S4x20000 ![] bcast_S_S4x20000 (constant S_ .f32 0x3F000000#32)

/-- The scaled extents and the lower ends on one axis: `lo`, `hi` are the anchors', `p`, `e` the scaled deltas. -/
def extMat (lo hi e : FVec Ideal S4x20000 .f32) : FVec Ideal S4x20000 .f32 := mulf (subf hi lo) (Host.exp e)
def lowMat (lo hi p e : FVec Ideal S4x20000 .f32) : FVec Ideal S4x20000 .f32 :=
  subf (addf (addf lo (mulf halves (subf hi lo))) (mulf p (subf hi lo))) (mulf halves (extMat lo hi e))

/-- Four columns side by side. -/
def four (y1 x1 y2 x2 : FVec Ideal S4x20000 .f32) : FVec Ideal S4x20000x4 .f32 :=
  concatenate S4x20000x4 2 [⟨S4x20000x1, broadcastInDim S4x20000x1 ![0, 1] bcast_S4x20000_S4x20000x1_0_1 y1⟩,
    ⟨S4x20000x1, broadcastInDim S4x20000x1 ![0, 1] bcast_S4x20000_S4x20000x1_0_1 x1⟩,
    ⟨S4x20000x1, broadcastInDim S4x20000x1 ![0, 1] bcast_S4x20000_S4x20000x1_0_1 y2⟩,
    ⟨S4x20000x1, broadcastInDim S4x20000x1 ![0, 1] bcast_S4x20000_S4x20000x1_0_1 x2⟩]
    concatenates_S4x20000x1_S4x20000x1_S4x20000x1_S4x20000x1_S4x20000x4_d2

/-- All boxes. -/
def boxMat (d a : FVec Ideal S4x20000x4 .f32) : FVec Ideal S4x20000x4 .f32 :=
  let a0 := colMat ![0, 0, 0] slices_S4x20000x4_S4x20000x1_0_0_0 a
  let a1 := colMat ![0, 0, 1] slices_S4x20000x4_S4x20000x1_0_0_1 a
  let a2 := colMat ![0, 0, 2] slices_S4x20000x4_S4x20000x1_0_0_2 a
  let a3 := colMat ![0, 0, 3] slices_S4x20000x4_S4x20000x1_0_0_3 a
  let d0 := colMat ![0, 0, 0] slices_S4x20000x4_S4x20000x1_0_0_0 (scaled d)
  let d1 := colMat ![0, 0, 1] slices_S4x20000x4_S4x20000x1_0_0_1 (scaled d)
  let d2 := colMat ![0, 0, 2] slices_S4x20000x4_S4x20000x1_0_0_2 (scaled d)
  let d3 := colMat ![0, 0, 3] slices_S4x20000x4_S4x20000x1_0_0_3 (scaled d)
  four (lowMat a0 a2 d0 d2) (lowMat a1 a3 d1 d3) (addf (lowMat a0 a2 d0 d2) (extMat a0 a2 d2))
    (addf (lowMat a1 a3 d1 d3) (extMat a1 a3 d3))

/-- The 6000 best locations' scores and boxes. -/
def topScores (x : FVec Ideal S4x20000x2 .f32) : FVec Ideal S4x6000 .f32 :=
  (Host.topK S4x6000 1 (FloatOps.cmpfTotal (F := Ideal) (φ := .f32) .gt) (scoreMat x) sliceFits_S4x20000_S4x6000).1
def topBoxes (x : FVec Ideal S4x20000x2 .f32) (d a : FVec Ideal S4x20000x4 .f32) : FVec Ideal S4x6000x4 .f32 :=
  Host.gather gather_S4x20000x4_S4x6000x1_S4x6000x4_2_1_0_0_1_2_114 (boxMat d a)
    (broadcastInDim S4x6000x1 ![0, 1] bcast_S4x6000_S4x6000x1_0_1
      (Host.topK S4x6000 1 (FloatOps.cmpfTotal (F := Ideal) (φ := .f32) .gt) (scoreMat x) sliceFits_S4x20000_S4x6000).2)

section
variable (x : FVec Ideal S4x20000x2 .f32) (d a : FVec Ideal S4x20000x4 .f32) (b : Fin 4) (n : Fin 20000)

theorem scoreMat_apply : scoreMat x (ix2 b n) = scoreRow x b n := by
  unfold scoreMat scoreRow
  pointwise

theorem colMat_apply :
    colMat ![0, 0, 0] slices_S4x20000x4_S4x20000x1_0_0_0 a (ix2 b n) = a (ix3 b n 0) ∧
    colMat ![0, 0, 1] slices_S4x20000x4_S4x20000x1_0_0_1 a (ix2 b n) = a (ix3 b n 1) ∧
    colMat ![0, 0, 2] slices_S4x20000x4_S4x20000x1_0_0_2 a (ix2 b n) = a (ix3 b n 2) ∧
    colMat ![0, 0, 3] slices_S4x20000x4_S4x20000x1_0_0_3 a (ix2 b n) = a (ix3 b n 3) := by
  unfold colMat
  refine ⟨?_, ?_, ?_, ?_⟩ <;> pointwise

theorem scaled_apply : scaled d (ix3 b n 0) = d (ix3 b n 0) * tenth ∧ scaled d (ix3 b n 1) = d (ix3 b n 1) * tenth ∧
    scaled d (ix3 b n 2) = d (ix3 b n 2) * fifth ∧ scaled d (ix3 b n 3) = d (ix3 b n 3) * fifth := by
  unfold scaled
  refine ⟨?_, ?_, ?_, ?_⟩ <;> (pointwise; rfl)

theorem extMat_apply (lo hi e : FVec Ideal S4x20000 .f32) :
    extMat lo hi e (ix2 b n) = (hi (ix2 b n) - lo (ix2 b n)) * Ideal.exp (e (ix2 b n)) := by
  unfold extMat
  pointwise

theorem lowMat_apply (lo hi p e : FVec Ideal S4x20000 .f32) :
    lowMat lo hi p e (ix2 b n) = lo (ix2 b n) + half * (hi (ix2 b n) - lo (ix2 b n))
      + p (ix2 b n) * (hi (ix2 b n) - lo (ix2 b n)) - half * extMat lo hi e (ix2 b n) := by
  unfold lowMat halves half
  pointwise

theorem four_apply (y1 x1 y2 x2 : FVec Ideal S4x20000 .f32) (k : Fin 4) :
    four y1 x1 y2 x2 (ix3 b n k) = (![y1 (ix2 b n), x1 (ix2 b n), y2 (ix2 b n), x2 (ix2 b n)] : Fin 4 → EReal) k := by
  unfold four
  fin_cases k <;> pointwise

/-- The box at a location. -/
theorem boxMat_apply (k : Fin 4) : boxMat d a (ix3 b n k) = boxAt d a b n k := by
  obtain ⟨a0, a1, a2, a3⟩ := colMat_apply a b n
  obtain ⟨d0, d1, d2, d3⟩ := colMat_apply (scaled d) b n
  obtain ⟨s0, s1, s2, s3⟩ := scaled_apply d b n
  rw [s0] at d0
  rw [s1] at d1
  rw [s2] at d2
  rw [s3] at d3
  refine (four_apply b n _ _ _ _ k).trans (congrFun ?_ k)
  have e1 := extMat_apply b n (colMat ![0, 0, 0] slices_S4x20000x4_S4x20000x1_0_0_0 a) (colMat ![0, 0, 2] slices_S4x20000x4_S4x20000x1_0_0_2 a)
    (colMat ![0, 0, 2] slices_S4x20000x4_S4x20000x1_0_0_2 (scaled d))
  have e2 := extMat_apply b n (colMat ![0, 0, 1] slices_S4x20000x4_S4x20000x1_0_0_1 a) (colMat ![0, 0, 3] slices_S4x20000x4_S4x20000x1_0_0_3 a)
    (colMat ![0, 0, 3] slices_S4x20000x4_S4x20000x1_0_0_3 (scaled d))
  rw [a0, a2, d2] at e1
  rw [a1, a3, d3] at e2
  have l1 := lowMat_apply b n (colMat ![0, 0, 0] slices_S4x20000x4_S4x20000x1_0_0_0 a) (colMat ![0, 0, 2] slices_S4x20000x4_S4x20000x1_0_0_2 a)
    (colMat ![0, 0, 0] slices_S4x20000x4_S4x20000x1_0_0_0 (scaled d)) (colMat ![0, 0, 2] slices_S4x20000x4_S4x20000x1_0_0_2 (scaled d))
  have l2 := lowMat_apply b n (colMat ![0, 0, 1] slices_S4x20000x4_S4x20000x1_0_0_1 a) (colMat ![0, 0, 3] slices_S4x20000x4_S4x20000x1_0_0_3 a)
    (colMat ![0, 0, 1] slices_S4x20000x4_S4x20000x1_0_0_1 (scaled d)) (colMat ![0, 0, 3] slices_S4x20000x4_S4x20000x1_0_0_3 (scaled d))
  rw [a0, a2, d0, e1] at l1
  rw [a1, a3, d1, e2] at l2
  unfold boxAt decode
  rw [← show _ = lower (a (ix3 b n 0)) (a (ix3 b n 2)) (d (ix3 b n 0)) (d (ix3 b n 2)) from l1,
    ← show _ = lower (a (ix3 b n 1)) (a (ix3 b n 3)) (d (ix3 b n 1)) (d (ix3 b n 3)) from l2]
  have u1 : upper (a (ix3 b n 0)) (a (ix3 b n 2)) (d (ix3 b n 0)) (d (ix3 b n 2)) = _ :=
    congrArg₂ (· + ·) (show lower (a (ix3 b n 0)) (a (ix3 b n 2)) (d (ix3 b n 0)) (d (ix3 b n 2)) = _ from l1.symm)
      (show extent (a (ix3 b n 0)) (a (ix3 b n 2)) (d (ix3 b n 2)) = _ from e1.symm)
  have u2 : upper (a (ix3 b n 1)) (a (ix3 b n 3)) (d (ix3 b n 1)) (d (ix3 b n 3)) = _ :=
    congrArg₂ (· + ·) (show lower (a (ix3 b n 1)) (a (ix3 b n 3)) (d (ix3 b n 1)) (d (ix3 b n 3)) = _ from l2.symm)
      (show extent (a (ix3 b n 1)) (a (ix3 b n 3)) (d (ix3 b n 3)) = _ from e2.symm)
  rw [u1, u2]
  rfl

/-- The `p`-th best score and box. -/
theorem topScores_apply (p : Fin 6000) : topScores x (ix2 b p) = scoreRow x b (best x b p) := by
  have e : (fun k => scoreMat x (ix2 b k)) = scoreRow x b := funext fun k => scoreMat_apply x b k
  refine (topK_value (K := 6000) (n := 20000) (by decide) (scoreMat x) sliceFits_S4x20000_S4x6000 b p).trans ?_
  rw [e]
  exact scoreMat_apply x b _

theorem topBoxes_apply (p : Fin 6000) (k : Fin 4) : topBoxes x d a (ix3 b p k) = boxAt d a b (best x b p) k := by
  have e : (fun k => scoreMat x (ix2 b k)) = scoreRow x b := funext fun k => scoreMat_apply x b k
  have hi := topK_index (K := 6000) (n := 20000) (by decide) (scoreMat x) sliceFits_S4x20000_S4x6000 b p
  rw [e] at hi
  refine (gather_many (B := 4) (N := 20000) (K := 6000) (C := 4) _ (by decide) (boxMat d a) _ b p k (best x b p) ?_).trans
    (boxMat_apply d a b _ k)
  refine Eq.trans ?_ hi
  pointwise
end

section
variable (m : (ℓ : Loc nD τ sig) → Buf (Elt Ideal) ℓ) (c : Dev nD)

theorem entry_boxes : entryContents preI m c (Proc.devRef .tc main_v56_0)
    = topBoxes (m ((c : Thread nD τ).loc main_arg0)) (m ((c : Thread nD τ).loc main_arg1)) (m ((c : Thread nD τ).loc main_arg2)) := by
  simp only [entryContents, afterL_cons, afterL_nil]
  after_reads_simp
  rfl

theorem entry_scores : entryContents preI m c (Proc.devRef .tc main_v56_2) = topScores (m ((c : Thread nD τ).loc main_arg0)) := by
  simp only [entryContents, afterL_cons, afterL_nil]
  after_reads_simp
  rfl

end

end Nms

end
-- ==== Proof.RefRound.lean ====
/-
  One trip of the reference's loop, read at an entry.

  The scores `s` and the boxes `X` are those of the 6000 best locations of each sample. Where `q` is the sample's first
  entry, the trip's top-1 is `q`; so the row that it writes is `q`'s box (`rowOut_apply`), and the scores it passes on are
  dead at `q` and at every entry its box suppresses (`round_ref`).
-/
module

public import proofs.«01_k».proof.Proof.RefEntry
public import Idealize.ShloMosaic.Lib.WordCmp

@[expose] public section

set_option maxRecDepth 16384

noncomputable section

namespace Nms

open Idealize.ShloMosaic Idealize.ShloMosaic.Pointwise Idealize.ShloMosaic.TcCoe Idealize.SL.Sem
open Cert.ReferenceIdeal Cert.ReferenceIdeal.Gen Cert.ReferenceIdeal.Value Idealize.ShloMosaic.StableHlo

/-- The entry ranked first is the first entry. -/
theorem rank_zero {n : ℕ} (h0 : 0 < n) (x : Fin n → EReal) : First Fin.val x (rank x ⟨0, h0⟩) := by
  have key : ∀ m, x m < x (rank x ⟨0, h0⟩) ∨ (x m = x (rank x ⟨0, h0⟩) ∧ rank x ⟨0, h0⟩ ≤ m) := by
    intro m
    obtain ⟨j, rfl⟩ := rank_surjective x m
    rcases Nat.eq_zero_or_pos j.val with hj | hj
    · have : j = ⟨0, h0⟩ := Fin.ext hj
      subst this
      exact Or.inr ⟨rfl, le_rfl⟩
    · exact (rank_ordered x ⟨0, h0⟩ j hj).imp_right fun h => ⟨h.1, h.2.le⟩
  refine ⟨fun m => ?_, fun m hm => ?_⟩
  · rcases key m with h | h
    · exact h.le
    · exact h.1.le
  · rcases key m with h | h
    · exact absurd hm h.ne
    · exact h.2

/-- The trip's choice: its position as a word, whether it is alive, its box. -/
def pickWord (s : FVec Ideal S4x6000 .f32) : IVec S4 32 :=
  shapeCast S4 ((Host.topK S4x1 1 (FloatOps.cmpfTotal (F := Ideal) (φ := .f32) .gt) s sliceFits_S4x6000_S4x1).2) shapeCasts_S4x1_S4
def alive (s : FVec Ideal S4x6000 .f32) : IVec S4 1 :=
  cmpf .ogt (shapeCast S4 ((Host.topK S4x1 1 (FloatOps.cmpfTotal (F := Ideal) (φ := .f32) .gt) s sliceFits_S4x6000_S4x1).1)
    shapeCasts_S4x1_S4) (broadcastInDim S4 ![] bcast_S_S4 (constant S_ .f32 0xCDEE6B28#32))
def pickBox (X : FVec Ideal S4x6000x4 .f32) (s : FVec Ideal S4x6000 .f32) : FVec Ideal S4x4 .f32 :=
  Host.gather gather_S4x6000x4_S4x1_S4x4_1_1_0_0_1_1_114 X (broadcastInDim S4x1 ![0] bcast_S4_S4x1_0 (pickWord s))

/-- A value per sample, over all 6000 entries. -/
def spread {α : Type} (x : S4.Idx → α) : S4x6000.Idx → α :=
  broadcastInDim S4x6000 ![0, 1] bcast_S4x1_S4x6000_0_1 (broadcastInDim S4x1 ![0] bcast_S4_S4x1_0 x)

/-- A column of the boxes, and of the chosen box. -/
def colX (off : Fin 3 → Nat) (h : S4x6000x4.Slices off S4x6000x1) (X : FVec Ideal S4x6000x4 .f32) : FVec Ideal S4x6000 .f32 :=
  shapeCast S4x6000 (extractStridedSlice S4x6000x1 off X h) shapeCasts_S4x6000x1_S4x6000
def colP (off : Fin 2 → Nat) (h : S4x4.Slices off S4x1) (P : FVec Ideal S4x4 .f32) : FVec Ideal S4 .f32 :=
  shapeCast S4 (extractStridedSlice S4x1 off P h) shapeCasts_S4x1_S4

/-- The intersections of the chosen box with all, axis by axis. -/
def overlap (plo phi : FVec Ideal S4 .f32) (lo hi : FVec Ideal S4x6000 .f32) : FVec Ideal S4x6000 .f32 :=
  maximumf (subf (minimumf (spread phi) hi) (maximumf (spread plo) lo))
    (broadcastInDim S4x6000 ![] bcast_S_S4x6000 (constant S_ .f32 0x00000000#32))
def interMat (P : FVec Ideal S4x4 .f32) (X : FVec Ideal S4x6000x4 .f32) : FVec Ideal S4x6000 .f32 :=
  mulf (overlap (colP ![0, 0] slices_S4x4_S4x1_0_0 P) (colP ![0, 2] slices_S4x4_S4x1_0_2 P)
      (colX ![0, 0, 0] slices_S4x6000x4_S4x6000x1_0_0_0 X) (colX ![0, 0, 2] slices_S4x6000x4_S4x6000x1_0_0_2 X))
    (overlap (colP ![0, 1] slices_S4x4_S4x1_0_1 P) (colP ![0, 3] slices_S4x4_S4x1_0_3 P)
      (colX ![0, 0, 1] slices_S4x6000x4_S4x6000x1_0_0_1 X) (colX ![0, 0, 3] slices_S4x6000x4_S4x6000x1_0_0_3 X))

/-- The intersection over union of the chosen box with all. -/
def iouMat (P : FVec Ideal S4x4 .f32) (X : FVec Ideal S4x6000x4 .f32) : FVec Ideal S4x6000 .f32 :=
  Host.divf (interMat P X) (addf (subf (addf
    (spread (mulf (subf (colP ![0, 2] slices_S4x4_S4x1_0_2 P) (colP ![0, 0] slices_S4x4_S4x1_0_0 P))
      (subf (colP ![0, 3] slices_S4x4_S4x1_0_3 P) (colP ![0, 1] slices_S4x4_S4x1_0_1 P))))
    (mulf (subf (colX ![0, 0, 2] slices_S4x6000x4_S4x6000x1_0_0_2 X) (colX ![0, 0, 0] slices_S4x6000x4_S4x6000x1_0_0_0 X))
      (subf (colX ![0, 0, 3] slices_S4x6000x4_S4x6000x1_0_0_3 X) (colX ![0, 0, 1] slices_S4x6000x4_S4x6000x1_0_0_1 X))))
    (interMat P X)) (broadcastInDim S4x6000 ![] bcast_S_S4x6000 (constant S_ .f32 0x322BCC77#32)))

/-- The dead score, everywhere. -/
def deads : FVec Ideal S4x6000 .f32 :=
  broadcastInDim S4x6000 ![1] bcast_S6000_S4x6000_1 (broadcastInDim S6000 ![] bcast_S_S6000 (id (constant (F := Ideal) S_ .f32 0xCE6E6B28#32)))

/-- The scores that the trip passes on, and the row that it writes. -/
def nextScores (X : FVec Ideal S4x6000x4 .f32) (s : FVec Ideal S4x6000 .f32) : FVec Ideal S4x6000 .f32 :=
  select (cmpi .eq (broadcastInDim S4x6000 ![0, 1] bcast_S1x6000_S4x6000_0_1
      (broadcastInDim S1x6000 ![1] bcast_S6000_S1x6000_1 (iotaInDim S6000 32 0))) (spread (pickWord s))) deads
    (select (andi (cmpf .ogt (iouMat (pickBox X s) X) (broadcastInDim S4x6000 ![] bcast_S_S4x6000 (constant S_ .f32 0x3F000000#32)))
      (spread (alive s))) deads s)
def rowOut (X : FVec Ideal S4x6000x4 .f32) (s : FVec Ideal S4x6000 .f32) : FVec Ideal S1x4x4 .f32 :=
  broadcastInDim S1x4x4 ![1, 2] bcast_S4x4_S1x4x4_1_2 (select (broadcastInDim S4x4 ![0] bcast_S4_S4x4_0 (alive s)) (pickBox X s)
    (broadcastInDim S4x4 ![1] bcast_S4_S4x4_1 (broadcastInDim S4 ![] bcast_S_S4 (constant S_ .f32 0x00000000#32))))

section
variable (V : Valuation τ sig (Elt Ideal))

theorem step_scores : step_main_v56_2 V = nextScores (V (Proc.devRef .tc main_v56_0)) (V (Proc.devRef .tc main_v56_2)) := rfl

/-- Where the row goes: row `i`, for the counter `i`. -/
theorem step_rows : step_main_v56_3 V = Host.dynamicUpdateSlice (V (Proc.devRef .tc main_v56_3) : FVec Ideal S1000x4x4 .f32)
    (rowOut (V (Proc.devRef .tc main_v56_0)) (V (Proc.devRef .tc main_v56_2)))
    (fun k => (((![(V (Proc.devRef .tc main_v56_1) : IVec S_ 32), constantI S_ 32 0#32, constantI S_ 32 0#32] : Fin 3 → IVec S_ 32)) k
      (Shape.Idx.first h_S_)).toInt) updateFits_S1000x4x4_S1x4x4 := rfl
end

section
variable (P : FVec Ideal S4x4 .f32) (X : FVec Ideal S4x6000x4 .f32) (s : FVec Ideal S4x6000 .f32) (b : Fin 4) (p : Fin 6000)

/-- A row of the boxes. -/
def boxRow (X : FVec Ideal S4x6000x4 .f32) (b : Fin 4) (p : Fin 6000) : Fin 4 → EReal := fun k => X (ix3 b p k)

theorem spread_apply {α : Type} (x : S4.Idx → α) : spread x (ix2 b p) = x (ix1 b) := by
  unfold spread
  pointwise

theorem colX_apply :
    colX ![0, 0, 0] slices_S4x6000x4_S4x6000x1_0_0_0 X (ix2 b p) = X (ix3 b p 0) ∧
    colX ![0, 0, 1] slices_S4x6000x4_S4x6000x1_0_0_1 X (ix2 b p) = X (ix3 b p 1) ∧
    colX ![0, 0, 2] slices_S4x6000x4_S4x6000x1_0_0_2 X (ix2 b p) = X (ix3 b p 2) ∧
    colX ![0, 0, 3] slices_S4x6000x4_S4x6000x1_0_0_3 X (ix2 b p) = X (ix3 b p 3) := by
  unfold colX
  refine ⟨?_, ?_, ?_, ?_⟩ <;> pointwise

theorem colP_apply :
    colP ![0, 0] slices_S4x4_S4x1_0_0 P (ix1 b) = P (ix2 b 0) ∧ colP ![0, 1] slices_S4x4_S4x1_0_1 P (ix1 b) = P (ix2 b 1) ∧
    colP ![0, 2] slices_S4x4_S4x1_0_2 P (ix1 b) = P (ix2 b 2) ∧ colP ![0, 3] slices_S4x4_S4x1_0_3 P (ix1 b) = P (ix2 b 3) := by
  unfold colP
  refine ⟨?_, ?_, ?_, ?_⟩ <;> pointwise

theorem zero_word : Ideal.ofBits .f32 0x00000000#32 = (0 : EReal) := by
  simp [Ideal.ofBits, Ideal.ieee]

theorem overlap_apply (plo phi : FVec Ideal S4 .f32) (lo hi : FVec Ideal S4x6000 .f32) : overlap plo phi lo hi (ix2 b p)
    = max (min (phi (ix1 b)) (hi (ix2 b p)) - max (plo (ix1 b)) (lo (ix2 b p))) 0 := by
  rw [← zero_word, ← spread_apply b p plo, ← spread_apply b p phi]
  unfold overlap
  pointwise

theorem interMat_apply : interMat P X (ix2 b p) = inter (fun k => P (ix2 b k)) (boxRow X b p) := by
  obtain ⟨x0, x1, x2, x3⟩ := colX_apply X b p
  obtain ⟨p0, p1, p2, p3⟩ := colP_apply P b
  unfold interMat inter boxRow
  refine (congrArg₂ (· * ·) (overlap_apply b p _ _ _ _) (overlap_apply b p _ _ _ _) : _ = _).trans ?_
  rw [x0, x1, x2, x3, p0, p1, p2, p3]

theorem iouMat_apply : iouMat P X (ix2 b p) = iou (fun k => P (ix2 b k)) (boxRow X b p) := by
  obtain ⟨x0, x1, x2, x3⟩ := colX_apply X b p
  obtain ⟨p0, p1, p2, p3⟩ := colP_apply P b
  have ea : spread (mulf (subf (colP ![0, 2] slices_S4x4_S4x1_0_2 P) (colP ![0, 0] slices_S4x4_S4x1_0_0 P))
      (subf (colP ![0, 3] slices_S4x4_S4x1_0_3 P) (colP ![0, 1] slices_S4x4_S4x1_0_1 P))) (ix2 b p)
      = area (fun k => P (ix2 b k)) := by
    rw [spread_apply]
    show (colP ![0, 2] slices_S4x4_S4x1_0_2 P (ix1 b) - colP ![0, 0] slices_S4x4_S4x1_0_0 P (ix1 b))
      * (colP ![0, 3] slices_S4x4_S4x1_0_3 P (ix1 b) - colP ![0, 1] slices_S4x4_S4x1_0_1 P (ix1 b)) = _
    rw [p0, p1, p2, p3]
    rfl
  have eb : mulf (subf (colX ![0, 0, 2] slices_S4x6000x4_S4x6000x1_0_0_2 X) (colX ![0, 0, 0] slices_S4x6000x4_S4x6000x1_0_0_0 X))
      (subf (colX ![0, 0, 3] slices_S4x6000x4_S4x6000x1_0_0_3 X) (colX ![0, 0, 1] slices_S4x6000x4_S4x6000x1_0_0_1 X)) (ix2 b p)
      = area (boxRow X b p) := by
    show (colX ![0, 0, 2] slices_S4x6000x4_S4x6000x1_0_0_2 X (ix2 b p) - colX ![0, 0, 0] slices_S4x6000x4_S4x6000x1_0_0_0 X (ix2 b p))
      * (colX ![0, 0, 3] slices_S4x6000x4_S4x6000x1_0_0_3 X (ix2 b p) - colX ![0, 0, 1] slices_S4x6000x4_S4x6000x1_0_0_1 X (ix2 b p)) = _
    rw [x0, x1, x2, x3]
    rfl
  unfold iou
  rw [← interMat_apply, ← ea, ← eb]
  rfl

variable {s b} {q : Fin 6000} (hq : First Fin.val (fun p => s (ix2 b p)) q)

include hq in
theorem rank_pick (h : 1 ≤ 6000) : rank (fun p => s (ix2 b p)) ((0 : Fin 1).castLE h) = q :=
  First.unique Fin.val_injective (rank_zero (by decide) _) hq

include hq in
theorem pickWord_apply : pickWord s (ix1 b) = BitVec.ofNat 32 q.val := by
  have h := topK_index (K := 1) (n := 6000) (by decide) s sliceFits_S4x6000_S4x1 b 0
  rw [rank_pick hq] at h
  refine Eq.trans ?_ h
  unfold pickWord
  pointwise

include hq in
theorem alive_apply : alive s (ix1 b) = BitVec.ofBool (decide (deadHalf < s (ix2 b q))) := by
  have h := topK_value (K := 1) (n := 6000) (by decide) s sliceFits_S4x6000_S4x1 b 0
  rw [rank_pick hq] at h
  rw [← h]
  unfold alive
  pointwise
  rfl

include hq in
theorem pickBox_apply (k : Fin 4) : pickBox X s (ix2 b k) = X (ix3 b q k) := by
  refine gather_one (B := 4) (N := 6000) (C := 4) _ (by decide) X _ b k q ?_
  refine Eq.trans ?_ (pickWord_apply hq)
  pointwise

include hq in
/-- The scores after the trip. -/
theorem nextScores_apply (hlive : deadHalf < s (ix2 b q)) : nextScores X s (ix2 b p)
    = if p = q ∨ hits (boxRow X b q) (boxRow X b p) then dead else s (ix2 b p) := by
  have hi : iouMat (pickBox X s) X (ix2 b p) = iou (boxRow X b q) (boxRow X b p) := by
    rw [iouMat_apply]
    exact congrArg (fun t => iou t _) (funext fun k => pickBox_apply X hq k)
  have ha : spread (alive s) (ix2 b p) = 1#1 := by
    rw [spread_apply, alive_apply hq, decide_eq_true hlive]
    rfl
  have hw : spread (pickWord s) (ix2 b p) = BitVec.ofNat 32 q.val := by rw [spread_apply, pickWord_apply hq]
  have hd : deads (ix2 b p) = dead := by
    unfold deads dead
    pointwise
    rfl
  have he : IntOp.cmpi .eq (BitVec.ofNat 32 p.val) (BitVec.ofNat 32 q.val) = BitVec.ofBool (decide (p = q)) := by
    have hp := p.isLt
    have hq := q.isLt
    by_cases h : p = q
    · subst h
      simp [IntOp.cmpi]
    · rw [decide_eq_false h]
      refine congrArg BitVec.ofBool (beq_false_of_ne fun e => h (Fin.ext ?_))
      have e' := congrArg BitVec.toNat e
      rw [BitVec.toNat_ofNat, BitVec.toNat_ofNat] at e'
      omega
  have main : nextScores X s (ix2 b p) = Scalar.select (IntOp.cmpi .eq (BitVec.ofNat 32 p.val) (spread (pickWord s) (ix2 b p)))
      (deads (ix2 b p)) (Scalar.select (IntOp.andi (BitVec.ofBool (decide (half < iouMat (pickBox X s) X (ix2 b p))))
        (spread (alive s) (ix2 b p))) (deads (ix2 b p)) (s (ix2 b p))) := by
    unfold nextScores
    pointwise
    rfl
  rw [main, hw, ha, hd, hi, he]
  by_cases h1 : p = q
  · rw [if_pos (Or.inl h1), decide_eq_true h1]
    rfl
  · by_cases h2 : half < iou (boxRow X b q) (boxRow X b p)
    · rw [if_pos (Or.inr (show hits (boxRow X b q) (boxRow X b p) from h2)), decide_eq_true h2, decide_eq_false h1]
      rfl
    · rw [if_neg (by rintro (h | h); exacts [h1 h, h2 h]), decide_eq_false h2, decide_eq_false h1]
      rfl

include hq in
/-- The row that the trip writes. -/
theorem rowOut_apply (hlive : deadHalf < s (ix2 b q)) (k : Fin 4) : rowOut X s (ix3 0 b k) = boxRow X b q k := by
  have main : rowOut X s (ix3 0 b k) = Scalar.select (alive s (ix1 b)) (pickBox X s (ix2 b k)) (Ideal.ofBits .f32 0x00000000#32) := by
    unfold rowOut
    pointwise
  rw [main, alive_apply hq, decide_eq_true hlive, pickBox_apply X hq]
  rfl

end

/-- A trip is a round. -/
theorem round_ref (X : FVec Ideal S4x6000x4 .f32) (s : FVec Ideal S4x6000 .f32) (b : Fin 4) :
    Round Fin.val (fun q p => hits (boxRow X b q) (boxRow X b p)) dead deadHalf (fun p => s (ix2 b p))
      (fun p => nextScores X s (ix2 b p)) := by
  intro q hq hlive p
  refine ⟨fun h => ?_, fun h => ?_⟩
  · exact (nextScores_apply X p hq hlive).trans (if_pos h)
  · exact (nextScores_apply X p hq hlive).trans (if_neg h)

end Nms

end
-- ==== Proof.RefRows.lean ====
/-
  The reference's result.

  The loop runs 1000 trips from `entryContents`. The boxes stay; before trip `i` the counter is `i`; the scores are those
  of `i` rounds (`scoresR`); and trip `i` writes row `i`, which no later trip touches (`rows_eq`). The result is these
  rows, sample by sample (`out_apply`).
-/
module

public import proofs.«01_k».proof.Proof.RefRound

@[expose] public section

set_option maxRecDepth 16384

noncomputable section

namespace Nms

open Idealize.ShloMosaic Idealize.ShloMosaic.Pointwise Idealize.ShloMosaic.TcCoe Idealize.SL.Sem
open Cert.ReferenceIdeal Cert.ReferenceIdeal.Gen Cert.ReferenceIdeal.Value Idealize.ShloMosaic.StableHlo

/-- A row written at row `i`. -/
theorem put_row (x : FVec Ideal S1000x4x4 .f32) (u : FVec Ideal S1x4x4 .f32) (start : Fin 3 → Int) (i : ℕ) (hi : i < 1000)
    (h0 : start 0 = i) (h1 : start 1 = 0) (h2 : start 2 = 0) (j : Fin 1000) (b k : Fin 4) :
    Host.dynamicUpdateSlice x u start updateFits_S1000x4x4_S1x4x4 (ix3 j b k) = if j.val = i then u (ix3 0 b k) else x (ix3 j b k) := by
  have hk : S1000x4x4.Slices ![i, 0, 0] S1x4x4 := ⟨rfl, fun a => by
    match a with
    | ⟨0, _⟩ => show i + 1 ≤ 1000; omega
    | ⟨1, _⟩ => show 0 + 4 ≤ 4; omega
    | ⟨2, _⟩ => show 0 + 4 ≤ 4; omega⟩
  rw [WordCmp.dynamicUpdateSlice_eq_update x u start updateFits_S1000x4x4_S1x4x4 ![i, 0, 0] hk (fun a => by
    match a with
    | ⟨0, _⟩ => exact h0
    | ⟨1, _⟩ => exact h1
    | ⟨2, _⟩ => exact h2)]
  unfold updateSlice
  by_cases hj : j.val = i
  · rw [if_pos hj, dif_pos (fun a => by
      match a with
      | ⟨0, _⟩ => exact ⟨show i ≤ j.val by omega, show j.val < i + 1 by omega⟩
      | ⟨1, _⟩ => exact ⟨Nat.zero_le _, show b.val < 0 + 4 by have := b.isLt; omega⟩
      | ⟨2, _⟩ => exact ⟨Nat.zero_le _, show k.val < 0 + 4 by have := k.isLt; omega⟩)]
    refine congrArg u ?_
    funext a
    match a with
    | ⟨0, _⟩ => exact Fin.ext (show j.val - i = 0 by omega)
    | ⟨1, _⟩ => exact Fin.ext (show b.val - 0 = b.val by omega)
    | ⟨2, _⟩ => exact Fin.ext (show k.val - 0 = k.val by omega)
  · rw [if_neg hj, dif_neg]
    intro h
    have h' : i ≤ j.val ∧ j.val < i + 1 := h 0
    omega

section
variable (m : (ℓ : Loc nD τ sig) → Buf (Elt Ideal) ℓ) (c : Dev nD)

/-- The contents before trip `i`. -/
def atTrip (i : ℕ) : Valuation τ sig (Elt Ideal) := STEP^[i] (entryContents preI m c)

theorem atTrip_succ (i : ℕ) : atTrip m c (i + 1) = STEP (atTrip m c i) := Function.iterate_succ_apply' _ _ _

/-- The boxes, and the scores before trip `i`. -/
def boxesR : FVec Ideal S4x6000x4 .f32 :=
  topBoxes (m ((c : Thread nD τ).loc main_arg0)) (m ((c : Thread nD τ).loc main_arg1)) (m ((c : Thread nD τ).loc main_arg2))
def scoresR (i : ℕ) : FVec Ideal S4x6000 .f32 := (nextScores (boxesR m c))^[i] (topScores (m ((c : Thread nD τ).loc main_arg0)))

theorem scoresR_succ (i : ℕ) : scoresR m c (i + 1) = nextScores (boxesR m c) (scoresR m c i) := Function.iterate_succ_apply' _ _ _

theorem boxes_before (i : ℕ) : atTrip m c i (Proc.devRef .tc main_v56_0) = boxesR m c := by
  induction i with
  | zero => exact entry_boxes m c
  | succ i ih => rw [atTrip_succ, STEP_main_v56_0, ih]

theorem scores_before (i : ℕ) : atTrip m c i (Proc.devRef .tc main_v56_2) = scoresR m c i := by
  induction i with
  | zero => exact entry_scores m c
  | succ i ih => rw [atTrip_succ, STEP_main_v56_2, step_scores, boxes_before, ih, scoresR_succ]

theorem counter_before (i : ℕ) : atTrip m c i (Proc.devRef .tc main_v56_1) = fun _ => BitVec.ofNat 32 i := by
  induction i with
  | zero => exact ctr_entry m c
  | succ i ih =>
    rw [atTrip_succ, STEP_main_v56_1]
    show addi (atTrip m c i (Proc.devRef .tc main_v56_1) : IVec S_ 32) (constantI S_ 32 1#32) = _
    rw [ih]
    funext x
    exact (BitVec.ofNat_add i 1).symm

/-- Row `j`, once written, stays. -/
theorem rows_eq (i : ℕ) (hi : i ≤ 1000) (j : Fin 1000) (hj : j.val < i) (b k : Fin 4) :
    (atTrip m c i (Proc.devRef .tc main_v56_3) : FVec Ideal S1000x4x4 .f32) (ix3 j b k)
      = rowOut (boxesR m c) (scoresR m c j.val) (ix3 0 b k) := by
  induction i with
  | zero => exact absurd hj (Nat.not_lt_zero _)
  | succ i ih =>
    have e : atTrip m c (i + 1) (Proc.devRef .tc main_v56_3) = Host.dynamicUpdateSlice
        (atTrip m c i (Proc.devRef .tc main_v56_3) : FVec Ideal S1000x4x4 .f32) (rowOut (boxesR m c) (scoresR m c i))
        (fun k => (((![(fun _ => BitVec.ofNat 32 i : IVec S_ 32), constantI S_ 32 0#32, constantI S_ 32 0#32] : Fin 3 → IVec S_ 32)) k
          (Shape.Idx.first h_S_)).toInt) updateFits_S1000x4x4_S1x4x4 := by
      rw [atTrip_succ, STEP_main_v56_3, step_rows, boxes_before, scores_before, counter_before]
      rfl
    refine (congrFun e (ix3 j b k)).trans ?_
    rw [put_row _ _ _ i (by omega) (by
      show (BitVec.ofNat 32 i).toInt = (i : Int)
      rw [BitVec.toInt_ofNat']
      exact Int.bmod_eq_of_le (by omega) (by omega)) rfl rfl]
    by_cases h : j.val = i
    · rw [if_pos h, h]
    · rw [if_neg h]
      exact ih (by omega) (by omega)

/-- The result, at a sample, row and coordinate. -/
theorem out_apply (b : Fin 4) (i : Fin 1000) (k : Fin 4) :
    (out_main_v57 (STEP^[1000] (entryContents preI m c)) : FVec Ideal S4x1000x4 .f32) (ix3 b i k)
      = rowOut (boxesR m c) (scoresR m c i.val) (ix3 0 b k) := by
  refine Eq.trans ?_ (rows_eq m c 1000 le_rfl i i.isLt b k)
  unfold out_main_v57 atTrip
  generalize STEP^[1000] (entryContents preI m c) = V
  pointwise

end

end Nms

end
-- ==== Proof.PreValue.lean ====
/-
  What the precondition says.

  Every score is above the padding threshold (`scores_above`), and of each sample's 6000 best boxes at least 1000 overlap
  no better one too much (`enough_free`).
-/
module

public import proofs.«01_k».proof.Proof.Gen.Pre_enough_survive
public import proofs.«01_k».proof.Proof.RefEntry
public import Idealize.ShloMosaic.Lib.StableHlo.Predicate
public import Idealize.ShloMosaic.Lib.WordCmp

@[expose] public section

set_option maxRecDepth 16384

noncomputable section

namespace Nms

open Idealize.ShloMosaic Idealize.ShloMosaic.Pointwise
open Cert.Pre_enough_survive Cert.Pre_enough_survive.Facts

/-- A value per entry, over all pairs `(q, p)`: the value at `q`, and the value at `p`. -/
def alongQ (x : FVec Ideal S4x6000 .f32) : FVec Ideal S4x6000x6000 .f32 :=
  broadcastInDim S4x6000x6000 ![0, 1, 2] bcast_S4x6000x1_S4x6000x6000_0_1_2
    (broadcastInDim S4x6000x1 ![0, 1] bcast_S4x6000_S4x6000x1_0_1 x)
def alongP (x : FVec Ideal S4x6000 .f32) : FVec Ideal S4x6000x6000 .f32 :=
  broadcastInDim S4x6000x6000 ![0, 1, 2] bcast_S4x1x6000_S4x6000x6000_0_1_2
    (broadcastInDim S4x1x6000 ![0, 2] bcast_S4x6000_S4x1x6000_0_2 x)

/-- A column of the best boxes. -/
def colB (off : Fin 3 → Nat) (h : S4x6000x4.Slices off S4x6000x1) (X : FVec Ideal S4x6000x4 .f32) : FVec Ideal S4x6000 .f32 :=
  shapeCast S4x6000 (extractStridedSlice S4x6000x1 off X h) shapeCasts_S4x6000x1_S4x6000

/-- All pairs' intersections, on one axis and whole; the areas; all pairs' intersections over unions. -/
def overlaps (lo hi : FVec Ideal S4x6000 .f32) : FVec Ideal S4x6000x6000 .f32 :=
  maximumf (subf (minimumf (alongQ hi) (alongP hi)) (maximumf (alongQ lo) (alongP lo)))
    (broadcastInDim S4x6000x6000 ![] bcast_S_S4x6000x6000 (constant S_ .f32 0x00000000#32))
def inters (X : FVec Ideal S4x6000x4 .f32) : FVec Ideal S4x6000x6000 .f32 :=
  mulf (overlaps (colB ![0, 0, 0] slices_S4x6000x4_S4x6000x1_0_0_0 X) (colB ![0, 0, 2] slices_S4x6000x4_S4x6000x1_0_0_2 X))
    (overlaps (colB ![0, 0, 1] slices_S4x6000x4_S4x6000x1_0_0_1 X) (colB ![0, 0, 3] slices_S4x6000x4_S4x6000x1_0_0_3 X))
def areas (X : FVec Ideal S4x6000x4 .f32) : FVec Ideal S4x6000 .f32 :=
  mulf (subf (colB ![0, 0, 2] slices_S4x6000x4_S4x6000x1_0_0_2 X) (colB ![0, 0, 0] slices_S4x6000x4_S4x6000x1_0_0_0 X))
    (subf (colB ![0, 0, 3] slices_S4x6000x4_S4x6000x1_0_0_3 X) (colB ![0, 0, 1] slices_S4x6000x4_S4x6000x1_0_0_1 X))
def ious (X : FVec Ideal S4x6000x4 .f32) : FVec Ideal S4x6000x6000 .f32 :=
  Host.divf (inters X) (addf (subf (addf (alongQ (areas X)) (alongP (areas X))) (inters X))
    (broadcastInDim S4x6000x6000 ![] bcast_S_S4x6000x6000 (constant S_ .f32 0x322BCC77#32)))

/-- "`q` is better than `p`", all pairs. -/
def betters : IVec S4x6000x6000 1 :=
  broadcastInDim S4x6000x6000 ![0, 1, 2] bcast_S1x6000x6000_S4x6000x6000_0_1_2
    (broadcastInDim S1x6000x6000 ![1, 2] bcast_S6000x6000_S1x6000x6000_1_2
      (cmpi .slt
        (broadcastInDim S6000x6000 ![0, 1] bcast_S6000x1_S6000x6000_0_1
          (broadcastInDim S6000x1 ![0] bcast_S6000_S6000x1_0 (iotaInDim S6000 32 0)))
        (broadcastInDim S6000x6000 ![0, 1] bcast_S1x6000_S6000x6000_0_1
          (broadcastInDim S1x6000 ![1] bcast_S6000_S1x6000_1 (iotaInDim S6000 32 0)))))

/-- The pairs where a better box hits; the entries that one hits; the entries that none hits. -/
def hitBits (X : FVec Ideal S4x6000x4 .f32) : IVec S4x6000x6000 1 :=
  andi (cmpf .ogt (ious X) (broadcastInDim S4x6000x6000 ![] bcast_S_S4x6000x6000 (constant S_ .f32 0x3F000000#32))) betters
def hurtBits (X : FVec Ideal S4x6000x4 .f32) : IVec S4x6000 1 :=
  Host.reduce IntOp.ori (hitBits X) (constantI S_ 1 0#1) reducesTo_S4x6000x6000_S4x6000_d1 h_S_
def freeBits (X : FVec Ideal S4x6000x4 .f32) : IVec S4x6000 1 := noti (hurtBits X)

/-- The precondition, in these words. -/
theorem fn_eq (x : FVec Ideal S4x20000x2 .f32) (d a : FVec Ideal S4x20000x4 .f32) : fn (F := Ideal) x d a
    = (cmpf .ogt (scoreMat x) (broadcastInDim S4x20000 ![] bcast_S_S4x20000 (constant S_ .f32 0xBF000000#32)),
      cmpi .sge (Host.reduce IntOp.addi (extui 32 (freeBits (topBoxes x d a)) natLt_1_32) (constantI S_ 32 0#32)
        reducesTo_S4x6000_S4_d1 h_S_) (broadcastInDim S4 ![] bcast_S_S4 (constantI S_ 32 1000#32))) := rfl

section
variable (X : FVec Ideal S4x6000x4 .f32) (b : Fin 4) (q p : Fin 6000)

theorem alongQ_apply (x : FVec Ideal S4x6000 .f32) : alongQ x (ix3 b q p) = x (ix2 b q) := by
  unfold alongQ
  pointwise
theorem alongP_apply (x : FVec Ideal S4x6000 .f32) : alongP x (ix3 b q p) = x (ix2 b p) := by
  unfold alongP
  pointwise

theorem colB_apply :
    colB ![0, 0, 0] slices_S4x6000x4_S4x6000x1_0_0_0 X (ix2 b p) = X (ix3 b p 0) ∧
    colB ![0, 0, 1] slices_S4x6000x4_S4x6000x1_0_0_1 X (ix2 b p) = X (ix3 b p 1) ∧
    colB ![0, 0, 2] slices_S4x6000x4_S4x6000x1_0_0_2 X (ix2 b p) = X (ix3 b p 2) ∧
    colB ![0, 0, 3] slices_S4x6000x4_S4x6000x1_0_0_3 X (ix2 b p) = X (ix3 b p 3) := by
  unfold colB
  refine ⟨?_, ?_, ?_, ?_⟩ <;> pointwise

theorem overlaps_apply (lo hi : FVec Ideal S4x6000 .f32) : overlaps lo hi (ix3 b q p)
    = max (min (hi (ix2 b q)) (hi (ix2 b p)) - max (lo (ix2 b q)) (lo (ix2 b p))) 0 := by
  have hz : Ideal.ofBits .f32 0x00000000#32 = (0 : EReal) := by simp [Ideal.ofBits, Ideal.ieee]
  rw [← hz, ← alongQ_apply b q p lo, ← alongP_apply b q p lo, ← alongQ_apply b q p hi, ← alongP_apply b q p hi]
  unfold overlaps
  pointwise

theorem inters_apply : inters X (ix3 b q p) = inter (fun k => X (ix3 b q k)) (fun k => X (ix3 b p k)) := by
  obtain ⟨x0, x1, x2, x3⟩ := colB_apply X b q
  obtain ⟨y0, y1, y2, y3⟩ := colB_apply X b p
  unfold inters inter
  refine (congrArg₂ (· * ·) (overlaps_apply b q p _ _) (overlaps_apply b q p _ _) : _ = _).trans ?_
  rw [x0, x1, x2, x3, y0, y1, y2, y3]

theorem areas_apply : areas X (ix2 b p) = area (fun k => X (ix3 b p k)) := by
  obtain ⟨x0, x1, x2, x3⟩ := colB_apply X b p
  show (colB ![0, 0, 2] slices_S4x6000x4_S4x6000x1_0_0_2 X (ix2 b p) - colB ![0, 0, 0] slices_S4x6000x4_S4x6000x1_0_0_0 X (ix2 b p))
    * (colB ![0, 0, 3] slices_S4x6000x4_S4x6000x1_0_0_3 X (ix2 b p) - colB ![0, 0, 1] slices_S4x6000x4_S4x6000x1_0_0_1 X (ix2 b p)) = _
  rw [x0, x1, x2, x3]
  rfl

theorem ious_apply : ious X (ix3 b q p) = iou (fun k => X (ix3 b q k)) (fun k => X (ix3 b p k)) := by
  unfold iou
  rw [← inters_apply, ← areas_apply, ← areas_apply, ← alongQ_apply b q p (areas X), ← alongP_apply b q p (areas X)]
  rfl

theorem betters_apply (h : q < p) : betters (ix3 b q p) = 1#1 := by
  have e : betters (ix3 b q p) = IntOp.cmpi .slt (BitVec.ofNat 32 q.val) (BitVec.ofNat 32 p.val) := by
    unfold betters
    pointwise
  have hq := q.isLt
  have hp := p.isLt
  have h' : q.val < p.val := h
  rw [e, StableHlo.Predicate.slt_iff_toNat (by rw [BitVec.toNat_ofNat]; omega) (by rw [BitVec.toNat_ofNat]; omega),
    BitVec.toNat_ofNat, BitVec.toNat_ofNat]
  omega

theorem hitBits_apply (h : q < p) (hh : hits (fun k => X (ix3 b q k)) (fun k => X (ix3 b p k))) : hitBits X (ix3 b q p) = 1#1 := by
  have e : hitBits X (ix3 b q p) = IntOp.andi (BitVec.ofBool (decide (half < ious X (ix3 b q p)))) (betters (ix3 b q p)) := by
    unfold hitBits
    rfl
  rw [e, ious_apply, betters_apply b q p h, decide_eq_true (show half < iou _ _ from hh)]
  rfl

/-- A fold of "or" is zero only where every bit is. -/
theorem fold_ori {ι : Type} (g : ι → BitVec 1) (s : Finset ι) (i : ι) (hi : i ∈ s) (h : g i = 1#1) :
    s.fold IntOp.ori 0#1 g = 1#1 := by
  classical
  have one : ∀ x : BitVec 1, IntOp.ori 1#1 x = 1#1 := by decide
  rw [← Finset.insert_erase hi, Finset.fold_insert (Finset.notMem_erase i s), h, one]

/-- An entry whose bit is set is hit by no better one. -/
theorem free_of_bit (hf : freeBits X (ix2 b p) = 1#1) (h : q < p) :
    ¬hits (fun k => X (ix3 b q k)) (fun k => X (ix3 b p k)) := by
  intro hh
  have e : hurtBits X (ix2 b p) = 1#1 := by
    unfold hurtBits
    rw [Host.reduce_eq_fold]
    refine fold_ori (hitBits X) _ (ix3 b q p) ?_ (hitBits_apply X b q p h hh)
    rw [Finset.mem_filter]
    refine ⟨Finset.mem_univ _, ?_⟩
    funext t
    match t with
    | ⟨0, _⟩ => exact Fin.ext (Shape.ReducesTo.drop_apply_val_of_eq reducesTo_S4x6000x6000_S4x6000_d1 (ix3 b q p) 0 0)
    | ⟨1, _⟩ => exact Fin.ext (Shape.ReducesTo.drop_apply_val_of_eq reducesTo_S4x6000x6000_S4x6000_d1 (ix3 b q p) 1 2)
  have e' : freeBits X (ix2 b p) = ~~~(hurtBits X (ix2 b p)) := rfl
  rw [e', e] at hf
  exact absurd hf (by decide)

end

section
variable (x : FVec Ideal S4x20000x2 .f32) (d a : FVec Ideal S4x20000x4 .f32)

/-- The comparison with the wanted count, read at a sample. -/
theorem sge_bit (v : IVec S4 32) (w : BitVec 32)
    (h : cmpi .sge v (broadcastInDim S4 ![] bcast_S_S4 (constantI S_ 32 w)) = fun _ => 1#1) (b : Fin 4) :
    IntOp.cmpi .sge (v (ix1 b)) w = 1#1 := congrFun h (ix1 b)

/-- Every score is above the threshold. -/
theorem scores_above (h : (fn (F := Ideal) x d a).1 = fun _ => 1#1) (b : Fin 4) (n : Fin 20000) : floor < scoreRow x b n := by
  rw [fn_eq] at h
  have h' : BitVec.ofBool (decide (floor < scoreMat x (ix2 b n))) = 1#1 := congrFun h (ix2 b n)
  rw [scoreMat_apply] at h'
  by_contra hn
  rw [decide_eq_false hn] at h'
  exact absurd h' (by decide)

/-- Of the 6000 best boxes of a sample at least 1000 are hit by no better one. -/
theorem enough_free (h : (fn (F := Ideal) x d a).2 = fun _ => 1#1) (b : Fin 4) :
    ∃ A : Finset (Fin 6000), (∀ p ∈ A, ∀ q, q < p → ¬hits (boxAt d a b (best x b q)) (boxAt d a b (best x b p))) ∧ 1000 ≤ A.card := by
  classical
  rw [fn_eq] at h
  dsimp only at h
  have h' := sge_bit (Host.reduce IntOp.addi (extui 32 (freeBits (topBoxes x d a)) natLt_1_32) (constantI S_ 32 0#32)
    reducesTo_S4x6000_S4_d1 h_S_) 1000#32 h b
  have hc := StableHlo.Predicate.toNat_reduce_count_cols (n := 4) (m := 6000) (by decide) (freeBits (topBoxes x d a)) natLt_1_32
    reducesTo_S4x6000_S4_d1 h_S_ (ix1 b)
  have hle : (Finset.univ.filter (fun q : Fin 6000 => freeBits (topBoxes x d a) (StableHlo.Predicate.ij b q) = 1#1)).card ≤ 6000 :=
    (Finset.card_le_univ _).trans (by simp)
  have hc' : _ = (Finset.univ.filter (fun q : Fin 6000 => freeBits (topBoxes x d a) (StableHlo.Predicate.ij b q) = 1#1)).card := hc
  rw [StableHlo.Predicate.sge_iff_toNat (by rw [hc']; omega) (by decide), hc'] at h'
  refine ⟨_, fun p hp q hq hh => ?_, h'⟩
  have hb := (Finset.mem_filter.mp hp).2
  have e : StableHlo.Predicate.ij b p = ix2 b p := by
    funext t
    match t with
    | ⟨0, _⟩ => rfl
    | ⟨1, _⟩ => rfl
  refine free_of_bit (topBoxes x d a) b q p (e ▸ hb) hq ?_
  rw [show (fun k => topBoxes x d a (ix3 b q k)) = boxAt d a b (best x b q) from funext fun k => topBoxes_apply x d a b q k,
    show (fun k => topBoxes x d a (ix3 b p k)) = boxAt d a b (best x b p) from funext fun k => topBoxes_apply x d a b p k]
  exact hh

end

end Nms

end
-- ==== Proof.Equation.lean ====
/-
  Under the precondition the kernel's rows are the reference's.

  The kernel suppresses over all 20000 locations and the padding, the reference over the 6000 best locations. A sample's
  scores and ranked locations are as `Best` asks (`best_cells`): so the two runs go in lockstep (`inv`), and row `i` of both
  is the box of the one location both take in round `i` (`rows_agree`).
-/
module

public import proofs.«01_k».proof.Proof.KernelArray
public import proofs.«01_k».proof.Proof.RefRound
public import proofs.«01_k».proof.Proof.PreValue

@[expose] public section

set_option maxRecDepth 16384

noncomputable section

namespace Nms

open Idealize.ShloMosaic Idealize.ShloMosaic.Pointwise
open Cert.KernelIdeal Cert.KernelIdeal.Gen

/-- The constants, and their order: dead, half of it, the padding, the threshold. -/
theorem dead_eq : dead = ((-1000000000 : ℝ) : EReal) := by
  unfold dead
  simp [Ideal.ofBits, Ideal.ieee]
  norm_num
  rw [← EReal.coe_pow, ← EReal.coe_mul]
  norm_num
theorem deadHalf_eq : deadHalf = ((-500000000 : ℝ) : EReal) := by
  unfold deadHalf
  simp [Ideal.ofBits, Ideal.ieee]
  norm_num
  rw [← EReal.coe_pow, ← EReal.coe_mul]
  norm_num
theorem pad_eq : Ideal.ofBits .f32 0xBF800000#32 = ((-1 : ℝ) : EReal) := by
  simp [Ideal.ofBits, Ideal.ieee]
  norm_num
  rw [← EReal.coe_mul]
  norm_num
theorem floor_eq : floor = ((-(1 / 2) : ℝ) : EReal) := by
  unfold floor
  simp [Ideal.ofBits, Ideal.ieee]
  norm_num
  rw [← EReal.coe_mul]
  norm_num

theorem dead_lt : dead < deadHalf := by
  rw [dead_eq, deadHalf_eq, EReal.coe_lt_coe_iff]
  norm_num
theorem deadHalf_lt : deadHalf < floor := by
  rw [deadHalf_eq, floor_eq, EReal.coe_lt_coe_iff]
  norm_num
theorem pad_lt : Ideal.ofBits .f32 0xBF800000#32 < floor := by
  rw [pad_eq, floor_eq, EReal.coe_lt_coe_iff]
  norm_num

/-- The cell of a location. -/
def cellOf (n : Fin 20000) : Cell :=
  (⟨n.val / 128, by have := n.isLt; omega⟩, ⟨n.val % 128, Nat.mod_lt _ (by decide)⟩)

theorem cellPos_cellOf (n : Fin 20000) : cellPos (cellOf n) = n.val := Nat.div_add_mod' n.val 128

theorem cellOf_pos (n : Cell) (h : cellPos n < 20000) : cellOf ⟨cellPos n, h⟩ = n := cellPos_injective (cellPos_cellOf _)

section
variable (x0 x1 x2 x3 x4 x5 x6 x7 x8 : FVec Ideal S4x157x128 .f32) (b : Fin 4)

/-- The box of a cell. -/
def cellBox (n : Cell) : Fin 4 → EReal :=
  boxes (blkY1 x1 x3 x5 x7) (blkX1 x2 x4 x6 x8) (blkY2 x1 x3 x5 x7) (blkX2 x2 x4 x6 x8) b n

/-- The kernel's trip is a round. -/
theorem round_ker (i : ℕ) : Round cellPos
    (fun n m => hits (cellBox x1 x2 x3 x4 x5 x6 x7 x8 b n) (cellBox x1 x2 x3 x4 x5 x6 x7 x8 b m)) dead deadHalf
    (cells (scoresAt x0 x1 x2 x3 x4 x5 x6 x7 x8 i) b) (cells (scoresAt x0 x1 x2 x3 x4 x5 x6 x7 x8 (i + 1)) b) := by
  unfold scoresAt
  rw [Function.iterate_succ_apply']
  exact round _ _ _ _ _ _ b (area_eq x1 x2 x3 x4 x5 x6 x7 x8 b)

end

section
variable (x : FVec Ideal S4x20000x2 .f32) (d a : FVec Ideal S4x20000x4 .f32) (b : Fin 4)

/-- The kernel's scores before round `i`, its rows, and its cells' boxes, from the three arguments. -/
def scoresK (i : ℕ) : FVec Ideal S4x157x128 .f32 :=
  scoresAt (scoreBlk x) (colBlk ![0, 0, 0] slices_S4x20000x4_S4x20000x1_0_0_0 a) (colBlk ![0, 0, 1] slices_S4x20000x4_S4x20000x1_0_0_1 a) (colBlk ![0, 0, 2] slices_S4x20000x4_S4x20000x1_0_0_2 a) (colBlk ![0, 0, 3] slices_S4x20000x4_S4x20000x1_0_0_3 a) (colBlk ![0, 0, 0] slices_S4x20000x4_S4x20000x1_0_0_0 d) (colBlk ![0, 0, 1] slices_S4x20000x4_S4x20000x1_0_0_1 d) (colBlk ![0, 0, 2] slices_S4x20000x4_S4x20000x1_0_0_2 d) (colBlk ![0, 0, 3] slices_S4x20000x4_S4x20000x1_0_0_3 d) i
def rowK (i : ℕ) : FVec Ideal S4x1x4 .f32 :=
  rowAt (scoreBlk x) (colBlk ![0, 0, 0] slices_S4x20000x4_S4x20000x1_0_0_0 a) (colBlk ![0, 0, 1] slices_S4x20000x4_S4x20000x1_0_0_1 a) (colBlk ![0, 0, 2] slices_S4x20000x4_S4x20000x1_0_0_2 a) (colBlk ![0, 0, 3] slices_S4x20000x4_S4x20000x1_0_0_3 a) (colBlk ![0, 0, 0] slices_S4x20000x4_S4x20000x1_0_0_0 d) (colBlk ![0, 0, 1] slices_S4x20000x4_S4x20000x1_0_0_1 d) (colBlk ![0, 0, 2] slices_S4x20000x4_S4x20000x1_0_0_2 d) (colBlk ![0, 0, 3] slices_S4x20000x4_S4x20000x1_0_0_3 d) i
def boxK (n : Cell) : Fin 4 → EReal :=
  cellBox (colBlk ![0, 0, 0] slices_S4x20000x4_S4x20000x1_0_0_0 a) (colBlk ![0, 0, 1] slices_S4x20000x4_S4x20000x1_0_0_1 a) (colBlk ![0, 0, 2] slices_S4x20000x4_S4x20000x1_0_0_2 a) (colBlk ![0, 0, 3] slices_S4x20000x4_S4x20000x1_0_0_3 a) (colBlk ![0, 0, 0] slices_S4x20000x4_S4x20000x1_0_0_0 d) (colBlk ![0, 0, 1] slices_S4x20000x4_S4x20000x1_0_0_1 d) (colBlk ![0, 0, 2] slices_S4x20000x4_S4x20000x1_0_0_2 d) (colBlk ![0, 0, 3] slices_S4x20000x4_S4x20000x1_0_0_3 d) b n

/-- A location's box is the same on both sides. -/
theorem boxK_cellOf (n : Fin 20000) : boxK d a b (cellOf n) = boxAt d a b n := by
  have h : cellPos (cellOf n) < 20000 := by rw [cellPos_cellOf]; exact n.isLt
  have e : (⟨cellPos (cellOf n), h⟩ : Fin 20000) = n := Fin.ext (cellPos_cellOf n)
  obtain ⟨a0, a1, a2, a3⟩ := colBlk_of_lt a b (cellOf n) h
  obtain ⟨d0, d1, d2, d3⟩ := colBlk_of_lt d b (cellOf n) h
  rw [e] at a0 a1 a2 a3 d0 d1 d2 d3
  unfold boxK cellBox boxAt
  rw [boxes_eq, a0, a1, a2, a3, d0, d1, d2, d3]
  rfl

/-- The first scores: a location's own; the padding's are dead. -/
theorem scoresK_zero (n : Cell) : cells (scoresK x d a 0) b n
    = if floor < cells (scoreBlk x) b n then cells (scoreBlk x) b n else dead := score_eq (scoreBlk x) b n

variable (hx : ∀ n, floor < scoreRow x b n)

include hx in
theorem scoresK_cellOf (n : Fin 20000) : cells (scoresK x d a 0) b (cellOf n) = scoreRow x b n := by
  have h : cellPos (cellOf n) < 20000 := by rw [cellPos_cellOf]; exact n.isLt
  have e : (⟨cellPos (cellOf n), h⟩ : Fin 20000) = n := Fin.ext (cellPos_cellOf n)
  have s : cells (scoreBlk x) b (cellOf n) = scoreRow x b n := by
    rw [scoreBlk_of_lt x b _ h, e]
    rfl
  rw [scoresK_zero, s, if_pos (hx n)]

theorem scoresK_pad (n : Cell) (h : ¬cellPos n < 20000) : cells (scoresK x d a 0) b n = dead := by
  rw [scoresK_zero, scoreBlk_of_ge x b n h, if_neg (not_lt.mpr pad_lt.le)]

include hx in
/-- The 6000 best locations are the best cells. -/
theorem best_cells : Best cellPos deadHalf (cells (scoresK x d a 0) b) (fun p : Fin 6000 => cellOf (best x b p)) where
  inj p q h := by
    have e : best x b p = best x b q := Fin.ext (by
      have := congrArg cellPos h
      rwa [cellPos_cellOf, cellPos_cellOf] at this)
    exact Fin.castLE_injective _ (rank_injective _ e)
  live p := by
    show deadHalf < cells (scoresK x d a 0) b (cellOf (best x b p))
    rw [scoresK_cellOf x d a b hx]
    exact deadHalf_lt.trans (hx _)
  ordered p q h := by
    show cells (scoresK x d a 0) b (cellOf (best x b q)) < cells (scoresK x d a 0) b (cellOf (best x b p))
      ∨ (cells (scoresK x d a 0) b (cellOf (best x b q)) = cells (scoresK x d a 0) b (cellOf (best x b p))
        ∧ cellPos (cellOf (best x b p)) < cellPos (cellOf (best x b q)))
    rw [scoresK_cellOf x d a b hx, scoresK_cellOf x d a b hx, cellPos_cellOf, cellPos_cellOf]
    exact rank_ordered (scoreRow x b) _ _ h
  rest n hn p := by
    show cells (scoresK x d a 0) b n < cells (scoresK x d a 0) b (cellOf (best x b p))
      ∨ (cells (scoresK x d a 0) b n = cells (scoresK x d a 0) b (cellOf (best x b p))
        ∧ cellPos (cellOf (best x b p)) < cellPos n)
    rw [scoresK_cellOf x d a b hx, cellPos_cellOf]
    by_cases h : cellPos n < 20000
    · have e := cellOf_pos n h
      have s := scoresK_cellOf x d a b hx ⟨cellPos n, h⟩
      rw [e] at s
      rw [s]
      have hm : ∀ q : Fin 6000, best x b q ≠ ⟨cellPos n, h⟩ := fun q hq => hn q (e ▸ congrArg cellOf hq)
      exact (rank_rest _ (scoreRow x b) _ hm p).imp_right fun r => ⟨r.1, r.2⟩
    · rw [scoresK_pad x d a b n h]
      exact Or.inl (dead_lt.trans (deadHalf_lt.trans (hx _)))

/-- The reference's scores before round `i`. -/
def scoresT (i : ℕ) : FVec Ideal Cert.ReferenceIdeal.S4x6000 .f32 := (nextScores (topBoxes x d a))^[i] (topScores x)

theorem boxRow_top (p : Fin 6000) : boxRow (topBoxes x d a) b p = boxK d a b (cellOf (best x b p)) := by
  rw [boxK_cellOf]
  exact funext fun k => topBoxes_apply x d a b p k

variable (hf : ∃ A : Finset (Fin 6000), (∀ p ∈ A, ∀ q, q < p → ¬hits (boxAt d a b (best x b q)) (boxAt d a b (best x b p)))
  ∧ 1000 ≤ A.card)

include hx hf in
/-- The two runs go in lockstep. -/
theorem inv (i : ℕ) (hi : i ≤ 1000) : Inv (fun n m => hits (boxK d a b n) (boxK d a b m)) dead (cells (scoresK x d a 0) b)
    (fun p : Fin 6000 => cellOf (best x b p)) 1000 i (cells (scoresK x d a i) b) (fun p => scoresT x d a i (ix2 b p)) := by
  refine lockstep (pos := cellPos) (half := deadHalf) (S := fun i => cells (scoresK x d a i) b)
    (R := fun i p => scoresT x d a i (ix2 b p)) (best_cells x d a b hx) dead_lt ?_ (fun _ => rfl) (fun p => ?_)
    (fun i _ => round_ker _ _ _ _ _ _ _ _ _ b i) (fun i _ => ?_) i hi
  · obtain ⟨A, hA, hc⟩ := hf
    refine ⟨A, fun p hp q hq => ?_, hc⟩
    show ¬hits (boxK d a b (cellOf (best x b q))) (boxK d a b (cellOf (best x b p)))
    rw [boxK_cellOf, boxK_cellOf]
    exact hA p hp q hq
  · show topScores x (ix2 b p) = cells (scoresK x d a 0) b (cellOf (best x b p))
    rw [scoresK_cellOf x d a b hx]
    exact topScores_apply x b p
  · have e : (fun q p : Fin 6000 => hits (boxK d a b (cellOf (best x b q))) (boxK d a b (cellOf (best x b p))))
        = fun q p => hits (boxRow (topBoxes x d a) b q) (boxRow (topBoxes x d a) b p) := by
      funext q p
      rw [boxRow_top, boxRow_top]
    show Round Fin.val (fun q p : Fin 6000 => hits (boxK d a b (cellOf (best x b q))) (boxK d a b (cellOf (best x b p))))
      dead deadHalf (fun p => scoresT x d a i (ix2 b p)) (fun p => scoresT x d a (i + 1) (ix2 b p))
    rw [e, show scoresT x d a (i + 1) = nextScores (topBoxes x d a) (scoresT x d a i) from Function.iterate_succ_apply' _ _ _]
    exact round_ref (topBoxes x d a) (scoresT x d a i) b

include hx hf in
/-- Row `i` of both. -/
theorem rows_agree (i : ℕ) (hi : i < 1000) (k : Fin 4) :
    rowK x d a i (ix3 b 0 k) = rowOut (topBoxes x d a) (scoresT x d a i) (ix3 0 b k) := by
  have h := inv x d a b hx hf i hi.le
  obtain ⟨p, hr, hk, hlive, -⟩ := h.pick (best_cells x d a b hx) dead_lt hi
  have hlive' : deadHalf < scoresT x d a i (ix2 b p) := by
    have := h.same p
    rw [this]
    exact hlive
  rw [rowOut_apply (topBoxes x d a) hr hlive' k, boxRow_top]
  unfold rowK rowAt boxK cellBox
  exact row_eq _ _ _ _ hk hlive k

end

end Nms

end
-- ==== Proof.lean ====
/-
  The certificate: frames of the kernel, of its idealization and of the reference, and the value claim.

  The frames are the programs' runs read at the arguments; the reference declares no semaphore. The value claim (`value`):
  the kernel's result is the array of `Proof/KernelArray.lean`, the reference's that of `Proof/RefRows.lean`, and under the
  precondition their rows are the same (`Proof/Equation.lean`).
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Value
public import proofs.«01_k».proof.Proof.Gen.ReferenceIdeal.Run
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_enough_survive
public import proofs.«01_k».proof.Proof.KernelArray
public import proofs.«01_k».proof.Proof.RefRows
public import proofs.«01_k».proof.Proof.Equation
public import Idealize.ShloMosaic.Adequacy
public import Idealize.ShloMosaic.Init

@[expose] public section

noncomputable section

namespace Cert.Proof

open Idealize.ShloMosaic Idealize.ShloMosaic.Pointwise Idealize.ShloMosaic.StableHlo Idealize.SL.Sem

/-- The reference's frame: its run read at the arguments. -/
theorem frame_reference : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The arrays the two runs leave are the same, where the precondition holds of the arguments. -/
theorem arrays_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Pre_KernelIdeal_enough_survive m) (c : Dev Cert.KernelIdeal.nD)
    (h0 : m' ((c.tc : Thread Cert.ReferenceIdeal.nD Cert.ReferenceIdeal.τ).loc Cert.ReferenceIdeal.main_arg0) = Nms.probs m c)
    (h1 : m' ((c.tc : Thread Cert.ReferenceIdeal.nD Cert.ReferenceIdeal.τ).loc Cert.ReferenceIdeal.main_arg1) = Nms.deltas m c)
    (h2 : m' ((c.tc : Thread Cert.ReferenceIdeal.nD Cert.ReferenceIdeal.τ).loc Cert.ReferenceIdeal.main_arg2) = Nms.anchors m c) :
    Cert.ReferenceIdeal.Value.out_main_v57 (Cert.ReferenceIdeal.Value.STEP^[1000]
      (entryContents Cert.ReferenceIdeal.Value.preI m' c)) = Nms.result m c := by
  refine funext fun (y : Cert.KernelIdeal.S4x1000x4.Idx) => ?_
  obtain ⟨b, i, k, rfl⟩ : ∃ (b : Fin 4) (i : Fin 1000) (k : Fin 4), y = ix3 b i k := ⟨y 0, y 1, y 2, by
    funext t
    match t with
    | ⟨0, _⟩ => rfl
    | ⟨1, _⟩ => rfl
    | ⟨2, _⟩ => rfl⟩
  refine (Nms.out_apply m' c b i k).trans ?_
  have hs := Nms.scores_above (Nms.probs m c) (Nms.deltas m c) (Nms.anchors m c) (hpre c).1 b
  have hf := Nms.enough_free (Nms.probs m c) (Nms.deltas m c) (Nms.anchors m c) (hpre c).2 b
  have e := Nms.rows_agree (Nms.probs m c) (Nms.deltas m c) (Nms.anchors m c) b hs hf i.val i.isLt k
  refine Eq.trans ?_ e.symm
  unfold Nms.scoresR Nms.boxesR
  rw [h0, h1, h2]
  rfl

/-- The value claim. -/
theorem value : Cert.algebraic_KernelIdeal_ReferenceIdeal_pre_enough_survive := by
  intro m ρ m' ρ' hpre hagree
  refine ⟨fun c => Nms.result m c, ?_, ?_⟩
  · exact (θ_run Cert.KernelIdeal.defs _ _).mono (fun _ h c => ⟨(h c).1.trans (Nms.array_eq m c), (h c).2⟩)
      (Cert.KernelIdeal.Value.run_blocks (F := Ideal) m ρ)
  · exact (θ_run Cert.ReferenceIdeal.defs _ _).mono (fun _ h c =>
      ⟨(h c).1.trans (arrays_agree m m' hpre c (hagree c).1 (hagree c).2.1 (hagree c).2.2), (h c).2⟩)
      (Cert.ReferenceIdeal.Value.run (F := Ideal) m' ρ')

/-- The claim. -/
theorem claim : Cert.Claim :=
  ⟨Cert.Kernel.Gen.facts, Cert.KernelIdeal.Gen.facts, Cert.ReferenceIdeal.Gen.facts, Cert.Pre_enough_survive.Gen.facts,
    fun m ρ _ => Cert.Kernel.Gen.frame m ρ, fun m ρ _ => Cert.KernelIdeal.Gen.frame m ρ,
    fun m ρ _ => Cert.KernelIdeal.Gen.frame m ρ, frame_reference, fun m ρ _ => frame_reference m ρ trivial, trivial, value⟩

end Cert.Proof

end
